-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 512]⟩ ⟨2, ![64, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S16x512 : Shape := ⟨2, ![16, 512]⟩
abbrev S12x16x512 : Shape := ⟨3, ![12, 16, 512]⟩
abbrev S36x16x512 : Shape := ⟨3, ![36, 16, 512]⟩
abbrev S_ : Shape := ⟨0, ![]⟩
abbrev S6 : Shape := ⟨1, ![6]⟩
abbrev S36 : Shape := ⟨1, ![36]⟩
abbrev S1 : Shape := ⟨1, ![1]⟩
abbrev S16x1024 : Shape := ⟨2, ![16, 1024]⟩
abbrev S1x16x512 : Shape := ⟨3, ![1, 16, 512]⟩

abbrev nBuf : Space → Nat
  | .hbm => 8
  | .vmem => 11
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S16x512, .f32⟩
  | .local _ .vmem, ⟨0, _⟩ => ⟨S12x16x512, .bf16⟩
  | .local _ .vmem, ⟨1, _⟩ => ⟨S36x16x512, .bf16⟩
  | .local _ .vmem, ⟨2, _⟩ => ⟨S64x512, .f32⟩
  | .local _ .vmem, ⟨3, _⟩ => ⟨S64x512, .f32⟩
  | .local _ .vmem, ⟨4, _⟩ => ⟨S512x1024, .f32⟩
  | .local _ .vmem, ⟨5, _⟩ => ⟨S1024x512, .f32⟩
  | .local _ .vmem, ⟨6, _⟩ => ⟨S512x1024, .f32⟩
  | .local _ .vmem, ⟨7, _⟩ => ⟨S1024x512, .f32⟩
  | .local _ .vmem, ⟨8, _⟩ => ⟨S512x1024, .f32⟩
  | .local _ .vmem, ⟨9, _⟩ => ⟨S1024x512, .f32⟩
  | .local _ .vmem, ⟨10, _⟩ => ⟨S16x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_31 : BitVec 32 := 1#32
  let v35 : BitVec 32 := Scalar.muli v3 c1_i32_31
  let v36 : BitVec 32 := Scalar.addi c0_i32_32 v35
  v36.toNat
def k0_dev5 (d0 : Dev nD) : Nat :=
  let c0_i32_42 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_41 : BitVec 32 := 1#32
  let v45 : BitVec 32 := Scalar.muli v4 c1_i32_41
  let v46 : BitVec 32 := Scalar.addi c0_i32_42 v45
  v46.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_51 : BitVec 32 := 1#32
  let v55 : BitVec 32 := Scalar.muli v5 c1_i32_51
  let v56 : BitVec 32 := Scalar.addi c0_i32_52 v55
  v56.toNat
def k0_dev7 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_72 : BitVec 32 := 1#32
  let v79 : BitVec 32 := Scalar.muli v3 c1_i32_72
  let v80 : BitVec 32 := Scalar.addi c0_i32_73 v79
  v80.toNat
def k0_dev8 (d0 : Dev nD) : Nat :=
  let c0_i32_83 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_82 : BitVec 32 := 1#32
  let v89 : BitVec 32 := Scalar.muli v4 c1_i32_82
  let v90 : BitVec 32 := Scalar.addi c0_i32_83 v89
  v90.toNat
def k0_dev9 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_91 : BitVec 32 := 1#32
  let v99 : BitVec 32 := Scalar.muli v5 c1_i32_91
  let v100 : BitVec 32 := Scalar.addi c0_i32_92 v99
  v100.toNat
def k0_dev10 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_109 : BitVec 32 := 1#32
  let v119 : BitVec 32 := Scalar.muli v3 c1_i32_109
  let v120 : BitVec 32 := Scalar.addi c0_i32_110 v119
  v120.toNat
def k0_dev11 (d0 : Dev nD) : Nat :=
  let c0_i32_119 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_118 : BitVec 32 := 1#32
  let v129 : BitVec 32 := Scalar.muli v4 c1_i32_118
  let v130 : BitVec 32 := Scalar.addi c0_i32_119 v129
  v130.toNat
def k0_dev12 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_127 : BitVec 32 := 1#32
  let v139 : BitVec 32 := Scalar.muli v5 c1_i32_127
  let v140 : BitVec 32 := Scalar.addi c0_i32_128 v139
  v140.toNat
def k0_dev13 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_145 : BitVec 32 := 1#32
  let v159 : BitVec 32 := Scalar.muli v3 c1_i32_145
  let v160 : BitVec 32 := Scalar.addi c0_i32_146 v159
  v160.toNat
def k0_dev14 (d0 : Dev nD) : Nat :=
  let c0_i32_155 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_154 : BitVec 32 := 1#32
  let v169 : BitVec 32 := Scalar.muli v4 c1_i32_154
  let v170 : BitVec 32 := Scalar.addi c0_i32_155 v169
  v170.toNat
def k0_dev15 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_163 : BitVec 32 := 1#32
  let v179 : BitVec 32 := Scalar.muli v5 c1_i32_163
  let v180 : BitVec 32 := Scalar.addi c0_i32_164 v179
  v180.toNat
def k0_dev16 (d0 : Dev nD) : Nat :=
  let c0_i32_223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_222 : BitVec 32 := 1#32
  let v237 : BitVec 32 := Scalar.muli v3 c1_i32_222
  let v238 : BitVec 32 := Scalar.addi c0_i32_223 v237
  v238.toNat
def k0_dev17 (d0 : Dev nD) : Nat :=
  let c0_i32_232 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_231 : BitVec 32 := 1#32
  let v247 : BitVec 32 := Scalar.muli v4 c1_i32_231
  let v248 : BitVec 32 := Scalar.addi c0_i32_232 v247
  v248.toNat
def k0_dev18 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_240 : BitVec 32 := 1#32
  let v257 : BitVec 32 := Scalar.muli v5 c1_i32_240
  let v258 : BitVec 32 := Scalar.addi c0_i32_241 v257
  v258.toNat
def k0_dev19 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_299 : BitVec 32 := 1#32
  let v315 : BitVec 32 := Scalar.muli v3 c1_i32_299
  let v316 : BitVec 32 := Scalar.addi c0_i32_300 v315
  v316.toNat
def k0_dev20 (d0 : Dev nD) : Nat :=
  let c0_i32_309 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_308 : BitVec 32 := 1#32
  let v325 : BitVec 32 := Scalar.muli v4 c1_i32_308
  let v326 : BitVec 32 := Scalar.addi c0_i32_309 v325
  v326.toNat
def k0_dev21 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_317 : BitVec 32 := 1#32
  let v335 : BitVec 32 := Scalar.muli v5 c1_i32_317
  let v336 : BitVec 32 := Scalar.addi c0_i32_318 v335
  v336.toNat
def k0_dev22 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_372 : BitVec 32 := 1#32
  let v389 : BitVec 32 := Scalar.muli v3 c1_i32_372
  let v390 : BitVec 32 := Scalar.addi c0_i32_373 v389
  v390.toNat
def k0_dev23 (d0 : Dev nD) : Nat :=
  let c0_i32_382 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_381 : BitVec 32 := 1#32
  let v399 : BitVec 32 := Scalar.muli v4 c1_i32_381
  let v400 : BitVec 32 := Scalar.addi c0_i32_382 v399
  v400.toNat
def k0_dev24 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_390 : BitVec 32 := 1#32
  let v409 : BitVec 32 := Scalar.muli v5 c1_i32_390
  let v410 : BitVec 32 := Scalar.addi c0_i32_391 v409
  v410.toNat
def k0_dev25 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_445 : BitVec 32 := 1#32
  let v463 : BitVec 32 := Scalar.muli v3 c1_i32_445
  let v464 : BitVec 32 := Scalar.addi c0_i32_446 v463
  v464.toNat
def k0_dev26 (d0 : Dev nD) : Nat :=
  let c0_i32_455 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_454 : BitVec 32 := 1#32
  let v473 : BitVec 32 := Scalar.muli v4 c1_i32_454
  let v474 : BitVec 32 := Scalar.addi c0_i32_455 v473
  v474.toNat
def k0_dev27 (d0 : Dev nD) : Nat :=
  let c0_i32_464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_463 : BitVec 32 := 1#32
  let v483 : BitVec 32 := Scalar.muli v5 c1_i32_463
  let v484 : BitVec 32 := Scalar.addi c0_i32_464 v483
  v484.toNat
def k0_off1 (d0 : Dev nD) (c1_i32_0 : BitVec 32) : Fin 3 → Nat :=
  let c8_i32_664 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c1_i32_0
  let v685 : BitVec 32 := Scalar.addi c8_i32_664 v3
  let c0_i32_671 : BitVec 32 := 0#32
  let c0_i32_672 : BitVec 32 := 0#32
  ![v685.toNat, 0, 0]
def k0_dev28 (d0 : Dev nD) : Nat :=
  let c0_i32_668 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_667 : BitVec 32 := 1#32
  let v686 : BitVec 32 := Scalar.muli v3 c1_i32_667
  let v687 : BitVec 32 := Scalar.addi c0_i32_668 v686
  v687.toNat
def k0_off2 (d0 : Dev nD) : Fin 3 → Nat :=
  let c8_i32_673 : BitVec 32 := 8#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let v696 : BitVec 32 := Scalar.addi c8_i32_673 v4
  let c0_i32_680 : BitVec 32 := 0#32
  let c0_i32_681 : BitVec 32 := 0#32
  ![v696.toNat, 0, 0]
def k0_dev29 (d0 : Dev nD) : Nat :=
  let c0_i32_677 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_676 : BitVec 32 := 1#32
  let v697 : BitVec 32 := Scalar.muli v4 c1_i32_676
  let v698 : BitVec 32 := Scalar.addi c0_i32_677 v697
  v698.toNat
def k0_dev30 (d0 : Dev nD) : Nat :=
  let c0_i32_686 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_685 : BitVec 32 := 1#32
  let v708 : BitVec 32 := Scalar.muli v5 c1_i32_685
  let v709 : BitVec 32 := Scalar.addi c0_i32_686 v708
  v709.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_724 : BitVec 32 := 16#32
  let v750 : BitVec 32 := Scalar.muli v2 c16_i32_724
  let v751 : Index := Scalar.indexCast v750
  let c0_725 : Index := 0#32
  ![v751.toNat, 0]
-- ==== ReferenceIdeal.lean ====
abbrev S64x512 : Shape := ⟨2, ![64, 512]⟩
abbrev S512x4096 : Shape := ⟨2, ![512, 4096]⟩
abbrev S4096x512 : Shape := ⟨2, ![4096, 512]⟩
abbrev S64x4096 : Shape := ⟨2, ![64, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S64x4096, .f32⟩
  | .hbm, ⟨8, _⟩ => ⟨S_, .f32⟩
  | .hbm, ⟨9, _⟩ => ⟨S64x4096, .f32⟩
  | .hbm, ⟨10, _⟩ => ⟨S64x4096, .f32⟩
  | .hbm, ⟨11, _⟩ => ⟨S64x512, .f32⟩
  | .hbm, ⟨12, _⟩ => ⟨S64x4096, .f32⟩
  | .hbm, ⟨13, _⟩ => ⟨S_, .f32⟩
  | .hbm, ⟨14, _⟩ => ⟨S64x4096, .f32⟩
  | .hbm, ⟨15, _⟩ => ⟨S64x4096, .f32⟩
  | .hbm, ⟨16, _⟩ => ⟨S64x512, .f32⟩
  | .hbm, ⟨17, _⟩ => ⟨S64x4096, .f32⟩
  | .hbm, ⟨18, _⟩ => ⟨S_, .f32⟩
  | .hbm, ⟨19, _⟩ => ⟨S64x4096, .f32⟩
  | .hbm, ⟨20, _⟩ => ⟨S64x4096, .f32⟩
  | .hbm, ⟨21, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Common.lean ====
/-
The three-layer all-reduce over four devices: its devices, buffers, semaphore cells and values.

Every layer computes, for each of four chunks of sixteen rows, the device's own part of the layer's product, rounds it to
sixteen bits into a slot of the send buffer and copies it into a slot of each of the other three devices; transfer
number `e` (of 27) goes to slot `e` of the device `tgt c e` and on semaphores number `e` of the two arrays. The next
layer's chunk is the sum of the own part and the three received ones. The last layer's parts are exchanged so that a
device receives only the chunk of its own number.

This file names those things once, for a device `c` and a transfer `e`, and states the schedule of the semaphore cells: who
raises which cell, by how much, and what the raise hands over.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds' resource: cells are semaphores, and a round has at most three duties. -/
abbrev UB : Type := URounds (GSem nD τ sig) (Fin 3)
/-- The certificate's resource: the region's own rounds and the exchange's. -/
abbrev UU : Type := UR sig nD τ × UB

local notation "𝕄" => MT nD τ sig Unit (Elt F) ℕ UU ℕ

/-- Where the region's rounds live. -/
abbrev EP : Emb (UR sig nD τ) (MT nD τ sig Unit (Elt F) ℕ UU ℕ) := embL
/-- Where the exchange's rounds live. -/
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The peers -/

/-- The three other devices, in the order the kernel addresses them. Each of the three maps is its own inverse. -/
def peer (k : Fin 3) (c : Dev nD) : Dev nD :=
  (![![1, 0, 3, 2], ![3, 2, 1, 0], ![2, 3, 0, 1]] : Fin 3 → Fin 4 → Fin 4) k c

/-- The peer's peer is the device itself. -/
theorem peer_peer (k : Fin 3) (c : Dev nD) : peer k (peer k c) = c := by revert k c; decide
/-- The three peers of a device are different. -/
theorem peer_inj (k k' : Fin 3) (c : Dev nD) (h : peer k c = peer k' c) : k = k' := by revert k k' c; decide

/-- Which of the three transfer `e` goes to. -/
def kOf (e : ℕ) : Fin 3 := ⟨e % 3, Nat.mod_lt _ (by decide)⟩
/-- The device transfer `e` of device `c` goes to; also the device whose transfer `e` comes to `c`. -/
abbrev tgt (c : Dev nD) (e : ℕ) : Dev nD := peer (kOf e) c
/-- What lands in slot `e` comes from the device that transfer `e` goes to. -/
theorem tgt_tgt (c : Dev nD) (e : ℕ) : tgt (tgt c e) e = c := peer_peer _ _

/-- The send buffer's slot transfer `e` of device `c` reads: the three transfers of a chunk read the chunk's slot; of the last
    layer each peer is sent the slot of its own chunk. -/
def srcSlot (c : Dev nD) (e : ℕ) : ℕ := if e < 24 then e / 3 else 8 + (tgt c e).val

/-! ## The buffers -/

/-- The send buffer. -/
abbrev sbM : Memref sig .tc .vmem S12x16x512 .bf16 := Memref.whole cc0_scratch0
/-- The receive buffer. -/
abbrev cmM : Memref sig .tc .vmem S36x16x512 .bf16 := Memref.whole cc0_scratch1
/-- The stage of the last layer's own parts. -/
abbrev sgM : Memref sig .tc .vmem S64x512 .f32 := Memref.whole cc0_scratch2
/-- The input in fast memory. -/
abbrev xvM : Memref sig .tc .vmem S64x512 .f32 := Memref.whole cc0_scratch3
/-- The result before it is copied out. -/
abbrev osM : Memref sig .tc .vmem S16x512 .f32 := Memref.whole cc0_scratch10

/-- A slot lies inside the send buffer. -/
abbrev bInb (off : Fin 3 → ℕ) : Prop := ∀ a, off a + S1x16x512.size a ≤ S12x16x512.size a
/-- A slot lies inside the receive buffer. -/
abbrev cInb (off : Fin 3 → ℕ) : Prop := ∀ a, off a + S1x16x512.size a ≤ S36x16x512.size a

/-- A slot of the send buffer, and of the receive buffer, as the kernel's transfers address it. -/
abbrev bslot {off : Fin 3 → ℕ} (h : bInb off) : Memref sig .tc .vmem S16x512 .bf16 :=
  (sbM.slice (Rect.unit (s := S12x16x512) off S1x16x512.size h) (fun _ => rfl)).squeeze S16x512 squeezes_S1x16x512_S16x512
/-- A slot of the receive buffer, as the transfers name it. -/
abbrev cslot {off : Fin 3 → ℕ} (h : cInb off) : Memref sig .tc .vmem S16x512 .bf16 :=
  (cmM.slice (Rect.unit (s := S36x16x512) off S1x16x512.size h) (fun _ => rfl)).squeeze S16x512 squeezes_S1x16x512_S16x512

/-- The contents of a send buffer. -/
abbrev SbTy : Type := S12x16x512.Idx → Elt F .bf16

/-- Device `c`'s send buffer. -/
abbrev sbLoc (c : Dev nD) : Loc nD τ sig := (c : Thread nD τ).loc cc0_scratch0
/-- Device `c`'s receive buffer. -/
abbrev cmLoc (c : Dev nD) : Loc nD τ sig := (c : Thread nD τ).loc cc0_scratch1
/-- Device `c`'s stage. -/
abbrev sgLoc (c : Dev nD) : Loc nD τ sig := (c : Thread nD τ).loc cc0_scratch2

/-- The elements of slot `s`. -/
def bset (c : Dev nD) (s : ℕ) : Finset (Idx (sbLoc c)) := (Finset.univ : Finset S12x16x512.Idx).filter (fun i => (i 0).val = s)
/-- The elements of receive slot `s`. -/
def cset (c : Dev nD) (s : ℕ) : Finset (Idx (cmLoc c)) := (Finset.univ : Finset S36x16x512.Idx).filter (fun i => (i 0).val = s)

/-- An index lies in slot `s` just when its first coordinate is `s`. -/
theorem mem_unit_slot {n s : ℕ} (off : Fin 3 → ℕ) (hoff : off = ![s, 0, 0])
    (h : ∀ a, off a + S1x16x512.size a ≤ (⟨3, ![n, 16, 512]⟩ : Shape).size a) (i : (⟨3, ![n, 16, 512]⟩ : Shape).Idx) :
    i ∈ (Rect.unit (s := ⟨3, ![n, 16, 512]⟩) off S1x16x512.size h).set ↔ (i 0).val = s := by
  subst hoff
  rw [Rect.mem_set_unit]
  constructor
  · intro H
    have h0 := H 0
    have e1 : (![s, 0, 0] : Fin 3 → ℕ) 0 = s := rfl
    have e2 : S1x16x512.size 0 = 1 := rfl
    rw [e1, e2] at h0
    omega
  · intro H a
    fin_cases a
    · show s ≤ (i 0).val ∧ (i 0).val < s + 1
      omega
    · show 0 ≤ (i 1).val ∧ (i 1).val < 0 + 16
      exact ⟨Nat.zero_le _, by rw [Nat.zero_add]; exact (i 1).isLt⟩
    · show 0 ≤ (i 2).val ∧ (i 2).val < 0 + 512
      exact ⟨Nat.zero_le _, by rw [Nat.zero_add]; exact (i 2).isLt⟩

/-- The elements of a send slot's view. -/
theorem bslot_set (c : Dev nD) {off : Fin 3 → ℕ} (h : bInb off) {s : ℕ} (hoff : off = ![s, 0, 0]) : (bslot h).view.set = bset c s := by
  refine (View.set_reshape _ _).trans ((View.set_slice_whole cc0_scratch0 _).trans (Finset.ext fun i => ?_))
  rw [bset, Finset.mem_filter]
  exact (mem_unit_slot off hoff h i).trans ⟨fun h => ⟨Finset.mem_univ _, h⟩, fun h => h.2⟩

/-- The elements of a receive slot's view. -/
theorem cslot_set (c : Dev nD) {off : Fin 3 → ℕ} (h : cInb off) {s : ℕ} (hoff : off = ![s, 0, 0]) : (cslot h).view.set = cset c s := by
  refine (View.set_reshape _ _).trans ((View.set_slice_whole cc0_scratch1 _).trans (Finset.ext fun i => ?_))
  rw [cset, Finset.mem_filter]
  exact (mem_unit_slot off hoff h i).trans ⟨fun h => ⟨Finset.mem_univ _, h⟩, fun h => h.2⟩

/-! ## The values -/

/-- The weights of layer `l` on device `c`: the part of the layer's two matrices it holds. -/
def wIn (l : ℕ) (c : Dev nD) : Vec F S512x1024 .f32 :=
  match l with
  | 0 => m ((c : Thread nD τ).loc main_arg1)
  | 1 => m ((c : Thread nD τ).loc main_arg2)
  | _ => m ((c : Thread nD τ).loc main_arg3)
/-- The second matrix of layer `l`, device `c`'s part. -/
def wOut (l : ℕ) (c : Dev nD) : Vec F S1024x512 .f32 :=
  match l with
  | 0 => m ((c : Thread nD τ).loc main_arg4)
  | 1 => m ((c : Thread nD τ).loc main_arg5)
  | _ => m ((c : Thread nD τ).loc main_arg6)

/-- A chunk lies inside the input. -/
theorem row_inb (ch : ℕ) : ∀ a, (![16 * (ch % 4), 0] : Fin 2 → ℕ) a + S16x512.size a ≤ S64x512.size a := by
  have h : ch % 4 < 4 := Nat.mod_lt _ (by decide)
  intro a
  fin_cases a
  · show 16 * (ch % 4) + 16 ≤ 64
    omega
  · show 0 + 512 ≤ 512
    omega

/-- Chunk `ch` of the input: sixteen rows. -/
def xrow (ch : ℕ) (c : Dev nD) : Vec F S16x512 .f32 :=
  xvM.view.readAt (Elt F) (Rect.unit (s := S64x512) ![16 * (ch % 4), 0] S16x512.size (row_inb ch)).toLoadRect
    (m ((c : Thread nD τ).loc main_arg0))

/-- A part as it is sent: rounded to sixteen bits. -/
def wire (p : FVec F S16x512 .f32) : FVec F S1x16x512 .bf16 :=
  shapeCast S1x16x512 (truncf .bf16 p bitsLt_bf16_f32) shapeCasts_S16x512_S1x16x512

/-- Device `c`'s own part of chunk `ch` after layer `l`: from the second layer on, of the sum of its own part and the
    three others' of the layer before. -/
def part : ℕ → ℕ → Dev nD → FVec F S16x512 .f32
  | 0, ch, c => k0_pay1 (xrow m ch c) (wIn m 0 c) (wOut m 0 c)
  | l + 1, ch, c =>
      k0_pay1 (k0_pay12 (part l ch c) (wire (part l ch (peer 0 c))) (wire (part l ch (peer 1 c))) (wire (part l ch (peer 2 c))))
        (wIn m (l + 1) c) (wOut m (l + 1) c)

/-- The result on device `c`: chunk `c` of the last layer, its own part and the three others'. -/
def outV (c : Dev nD) : Vec F S16x512 .f32 :=
  k0_pay35 (k0_pay33 (wire (part m 2 c.val (peer 0 c))) (wire (part m 2 c.val (peer 1 c))))
    (k0_pay34 (wire (part m 2 c.val (peer 2 c)))) (shapeCast S16x512 (part m 2 c.val c) shapeCasts_S16x512_S16x512)

/-- A position in a slot, whatever the slot. -/
def row3 {n : ℕ} (i : (⟨3, ![n, 16, 512]⟩ : Shape).Idx) : S1x16x512.Idx
  | 0 => (⟨0, by decide⟩ : Fin 1)
  | 1 => (i 1 : Fin 16)
  | 2 => (i 2 : Fin 512)

/-- What a device's send buffer holds, slot by slot: slot `s` its part of chunk `s % 4` after layer `s / 4`. -/
def sbV (c : Dev nD) : S12x16x512.Idx → F .bf16 := fun i => wire (part m ((i 0).val / 4) ((i 0).val % 4) c) (row3 i)

/-- What a device's receive buffer holds once everything has come: slot `e` what its sender's transfer `e` read. -/
def cmV (c : Dev nD) : S36x16x512.Idx → F .bf16 := fun i =>
  wire (part m (srcSlot (tgt c (i 0).val) (i 0).val / 4) (srcSlot (tgt c (i 0).val) (i 0).val % 4) (tgt c (i 0).val)) (row3 i)

/-- What the stage buffer holds: the last layer's own parts, chunk under chunk. -/
def row2 (i : S64x512.Idx) : S16x512.Idx
  | 0 => (⟨(i 0).val % 16, Nat.mod_lt _ (by decide)⟩ : Fin 16)
  | 1 => (i 1 : Fin 512)
/-- What the stage holds once the last layer is done: its own part of every chunk. -/
def sgV (c : Dev nD) : S64x512.Idx → F .f32 := fun i => shapeCast S16x512 (part m 2 ((i 0).val / 16) c) shapeCasts_S16x512_S16x512 (row2 i)

/-- Where an element of a slot is in its buffer. -/
theorem slot_emb {n s : ℕ} {off : Fin 3 → ℕ} (hoff : off = ![s, 0, 0])
    (h : ∀ a, off a + S1x16x512.size a ≤ (⟨3, ![n, 16, 512]⟩ : Shape).size a) (x : S1x16x512.Idx) :
    ((Rect.unit (s := ⟨3, ![n, 16, 512]⟩) off S1x16x512.size h).emb x 0).val = s ∧
      row3 ((Rect.unit (s := ⟨3, ![n, 16, 512]⟩) off S1x16x512.size h).emb x) = x := by
  subst hoff
  have e0 : (x 0).val = 0 := Nat.lt_one_iff.mp (x 0).isLt
  have key : ∀ a, ((Rect.unit (s := ⟨3, ![n, 16, 512]⟩) ![s, 0, 0] S1x16x512.size h).emb x a).val = (![s, 0, 0] : Fin 3 → ℕ) a + (x a).val := fun a => by
    rw [Rect.emb_apply]
    show _ + 1 * (x a).val = _
    rw [Nat.one_mul]
    rfl
  refine ⟨(key 0).trans (by rw [e0]; rfl), ?_⟩
  funext a
  apply Fin.ext
  fin_cases a
  · exact e0.symm
  · exact (key 1).trans (Nat.zero_add _)
  · exact (key 2).trans (Nat.zero_add _)

/-- In the first two layers three transfers share a source slot. -/
theorem srcSlot_early (c : Dev nD) {e : ℕ} (he : e < 24) : srcSlot c e = e / 3 := if_pos he
/-- In the last layer the source slot is the one of the chunk that the peer keeps. -/
theorem srcSlot_late (c : Dev nD) {e : ℕ} (he : 24 ≤ e) : srcSlot c e = 8 + (tgt c e).val := if_neg (Nat.not_lt.mpr he)

/-- The part a slot of the receive buffer is for: layer and chunk. -/
def slotPart (c : Dev nD) (e : ℕ) : FVec F S16x512 .f32 := part m (srcSlot (tgt c e) e / 4) (srcSlot (tgt c e) e % 4) (tgt c e)
/-- What lands in a slot in the first two layers. -/
theorem slotPart_early (c : Dev nD) {e : ℕ} (he : e < 24) : slotPart m c e = part m (e / 3 / 4) (e / 3 % 4) (tgt c e) := by
  unfold slotPart; rw [srcSlot_early _ he]
/-- What lands in a slot in the last layer. -/
theorem slotPart_late (c : Dev nD) {e : ℕ} (he : 24 ≤ e) : slotPart m c e = part m 2 c.val (tgt c e) := by
  unfold slotPart
  have hc : c.val < 4 := c.isLt
  rw [srcSlot_late _ he, tgt_tgt, show (8 + c.val) / 4 = 2 by omega, show (8 + c.val) % 4 = c.val by omega]

/-- Reading a slot of the receive buffer's final contents gives what was sent to it. -/
theorem read_cm (c : Dev nD) {off : Fin 3 → ℕ} {e : ℕ} (hoff : off = ![e, 0, 0]) (h : cInb off) :
    cmM.view.readAt (Elt F) (Rect.unit (s := S36x16x512) off S1x16x512.size h).toLoadRect (cmV m c) = wire (slotPart m c e) := by
  funext x
  show cmV m c ((Rect.unit (s := S36x16x512) off S1x16x512.size h).emb x) = _
  obtain ⟨h0, h1⟩ := slot_emb (n := 36) hoff h x
  unfold cmV slotPart
  rw [h0, h1]

end Cert.Exchange

end
-- ==== Proof.Sched.lean ====
/-
The semaphore cells of the exchange and their schedule.
-/
module

public import proofs.«01_k».proof.Proof.Common

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

/-- A semaphore lies inside the array of the sends or of the arrivals. -/
abbrev sInb (off : Fin 1 → ℕ) : Prop := ∀ a, off a + S1.size a ≤ S36.size a
/-- A semaphore lies inside the array of the weights' copies. -/
abbrev wInb (off : Fin 1 → ℕ) : Prop := ∀ a, off a + S1.size a ≤ S6.size a

/-- The semaphores as the kernel writes them: an entry of an array. -/
abbrev sendSem {off : Fin 1 → ℕ} (h : sInb off) : DmaSem sig :=
  ((cc0_scratch14.slice (Rect.unit (s := S36) off S1.size h)).squeeze S_ squeezes_S1_S_).sem
/-- The semaphore of an arrival, as the body names it. -/
abbrev recvSem {off : Fin 1 → ℕ} (h : sInb off) : DmaSem sig :=
  ((cc0_scratch15.slice (Rect.unit (s := S36) off S1.size h)).squeeze S_ squeezes_S1_S_).sem
/-- The semaphore of a weights' copy, as the body names it. -/
abbrev wSem {off : Fin 1 → ℕ} (h : wInb off) : DmaSem sig :=
  ((cc0_scratch13.slice (Rect.unit (s := S6) off S1.size h)).squeeze S_ squeezes_S1_S_).sem

/-- The same by number: eight local copies, then the sends', then the receives'. -/
def locIx (i : Fin 8) : DmaSem sig := (⟨i.val, by have := i.isLt; omega⟩ : Fin 80)
/-- The semaphore on which transfer `e` says that its source is free. -/
def sendIx (e : Fin 27) : DmaSem sig := (⟨8 + e.val, by have := e.isLt; omega⟩ : Fin 80)
/-- The semaphore on which arrival `e` is credited. -/
def recvIx (e : Fin 27) : DmaSem sig := (⟨44 + e.val, by have := e.isLt; omega⟩ : Fin 80)

/-- The body's name of a send's semaphore, by its number. -/
theorem sendSem_eq {off : Fin 1 → ℕ} (h : sInb off) (e : Fin 27) (hoff : off = ![e.val]) : sendSem h = sendIx e := by
  subst hoff; revert e; decide
/-- The body's name of an arrival's semaphore, by its number. -/
theorem recvSem_eq {off : Fin 1 → ℕ} (h : sInb off) (e : Fin 27) (hoff : off = ![e.val]) : recvSem h = recvIx e := by
  subst hoff; revert e; decide
/-- The body's name of a weights' copy's semaphore, by its number. -/
theorem wSem_eq {off : Fin 1 → ℕ} (h : wInb off) (i : Fin 6) (hoff : off = ![i.val]) : wSem h = locIx ⟨2 + i.val, by have := i.isLt; omega⟩ := by
  subst hoff; revert i; decide
/-- The input's copy has local semaphore 0. -/
theorem xSem_eq : (cc0_scratch11 : DmaSems sig S_).sem = locIx 0 := rfl
/-- The result's copy has local semaphore 1. -/
theorem oSem_eq : (cc0_scratch12 : DmaSems sig S_).sem = locIx 1 := rfl

/-- The barrier's semaphore. -/
abbrev barS : Sem sig := (SemArray.scalar (sig.barrier 0 rfl) : Sems sig S_).sem
/-- The barrier's semaphore on device `c`. -/
abbrev barCell (c : Dev nD) : GSem nD τ sig := ((c : Thread nD τ), .reg barS)
/-- Local copy `i`'s semaphore on device `c`. -/
abbrev locCell (c : Dev nD) (i : Fin 8) : GSem nD τ sig := ((c : Thread nD τ), .dma (locIx i))
/-- Send `e`'s semaphore on device `c`. -/
abbrev sendCell (c : Dev nD) (e : Fin 27) : GSem nD τ sig := ((c : Thread nD τ), .dma (sendIx e))
/-- Arrival `e`'s semaphore on device `c`. -/
abbrev recvCell (c : Dev nD) (e : Fin 27) : GSem nD τ sig := ((c : Thread nD τ), .dma (recvIx e))

/-! ## What the cells are raised by -/

/-- The credit of one transfer between devices. -/
def N : ℕ := (cslot inb_S36x16x512_S1x16x512_0_0_0).view.dmaCredit
/-- A transfer is worth something. -/
theorem N_pos : 0 < N := View.dmaCredit_pos _ (by decide)
/-- Every receive slot is worth the same. -/
theorem cslot_credit {off : Fin 3 → ℕ} (h : cInb off) : (cslot h).view.dmaCredit = N := rfl

/-- The credit of each local copy. -/
def locN : Fin 8 → ℕ
  | 0 => (Memref.whole cc0_scratch3 : Memref sig .tc _ _ _).view.dmaCredit
  | 1 => (Memref.whole main_v1 : Memref sig .tc _ _ _).view.dmaCredit
  | 2 => (Memref.whole cc0_scratch4 : Memref sig .tc _ _ _).view.dmaCredit
  | 3 => (Memref.whole cc0_scratch5 : Memref sig .tc _ _ _).view.dmaCredit
  | 4 => (Memref.whole cc0_scratch6 : Memref sig .tc _ _ _).view.dmaCredit
  | 5 => (Memref.whole cc0_scratch7 : Memref sig .tc _ _ _).view.dmaCredit
  | 6 => (Memref.whole cc0_scratch8 : Memref sig .tc _ _ _).view.dmaCredit
  | 7 => (Memref.whole cc0_scratch9 : Memref sig .tc _ _ _).view.dmaCredit
/-- A local copy is worth something. -/
theorem locN_pos (i : Fin 8) : 0 < locN i := by
  fin_cases i <;> exact View.dmaCredit_pos _ (by decide)

/-- A third of the whole for each transfer reading the same slot; the last three read a slot each. -/
def qOf (e : ℕ) : PosShare TreeShare :=
  if e < 24 then (![fullShare.left, fullShare.right.left, fullShare.right.right] : Fin 3 → PosShare TreeShare) (kOf e) else fullShare

/-- Slot `e` of device `c`'s receive buffer, not yet written and written. -/
def cmFree (c : Dev nD) (e : ℕ) : sProp 𝕄 := iprop(∃ f : Buf (Elt F) (cmLoc c), cmLoc c ↦[cset c e]{fullShare} f)
/-- Receive slot `e` with what has landed in it. -/
def cmPts (c : Dev nD) (e : ℕ) : sProp 𝕄 := cmLoc c ↦[cset c e]{fullShare} cmV m c
/-- The share of its slot transfer `e` of device `c` reads under. -/
def srcPts (c : Dev nD) (e : ℕ) : sProp 𝕄 := sbLoc c ↦[bset c (srcSlot c e)]{qOf e} sbV m c

/-- The number of the `j`-th transfer to the `k`-th peer. -/
def eOf (j : Fin 9) (k : Fin 3) : Fin 27 := ⟨3 * j.val + k.val, by have := j.isLt; have := k.isLt; omega⟩

/-- What device `p`'s signal to its `k`-th peer hands over: the slots of `p` that peer writes. -/
def barPay (p : Dev nD) (k : Fin 3) : sProp 𝕄 := bigSep Finset.univ fun j : Fin 9 => cmFree p (eOf j k).val

/-- A local copy landed: its destination at what was read, and its source again. -/
def cpPts (c : Dev nD) (a b : Ref sig .tc) (f : Buf (Elt F) ((c : Thread nD τ).loc a)) (g : Buf (Elt F) ((c : Thread nD τ).loc b)) : sProp 𝕄 :=
  iprop(((c : Thread nD τ).loc b ↦{fullShare} g) ∗ ((c : Thread nD τ).loc a ↦{fullShare} f))

/-- What the end of local copy `i` hands back: both buffers, the destination filled. -/
def locPay (c : Dev nD) : Fin 8 → sProp 𝕄
  | 0 => cpPts c main_arg0 cc0_scratch3 (m ((c : Thread nD τ).loc main_arg0)) (m ((c : Thread nD τ).loc main_arg0))
  | 1 => cpPts c cc0_scratch10 main_v1 (outV m c) (outV m c)
  | 2 => cpPts c main_arg1 cc0_scratch4 (m ((c : Thread nD τ).loc main_arg1)) (m ((c : Thread nD τ).loc main_arg1))
  | 3 => cpPts c main_arg4 cc0_scratch5 (m ((c : Thread nD τ).loc main_arg4)) (m ((c : Thread nD τ).loc main_arg4))
  | 4 => cpPts c main_arg2 cc0_scratch6 (m ((c : Thread nD τ).loc main_arg2)) (m ((c : Thread nD τ).loc main_arg2))
  | 5 => cpPts c main_arg5 cc0_scratch7 (m ((c : Thread nD τ).loc main_arg5)) (m ((c : Thread nD τ).loc main_arg5))
  | 6 => cpPts c main_arg3 cc0_scratch8 (m ((c : Thread nD τ).loc main_arg3)) (m ((c : Thread nD τ).loc main_arg3))
  | 7 => cpPts c main_arg6 cc0_scratch9 (m ((c : Thread nD τ).loc main_arg6)) (m ((c : Thread nD τ).loc main_arg6))

instance cmFree_storable (c : Dev nD) (e : ℕ) : BI.Storable (upEmb : UEmb _ 𝕄) (cmFree (F := F) c e) := by unfold cmFree; infer_instance
instance cmPts_storable (c : Dev nD) (e : ℕ) : BI.Storable (upEmb : UEmb _ 𝕄) (cmPts m c e) := by unfold cmPts; infer_instance
instance srcPts_storable (c : Dev nD) (e : ℕ) : BI.Storable (upEmb : UEmb _ 𝕄) (srcPts m c e) := by unfold srcPts; infer_instance
instance barPay_storable (c : Dev nD) (k : Fin 3) : BI.Storable (upEmb : UEmb _ 𝕄) (barPay (F := F) c k) := by unfold barPay; infer_instance
instance cpPts_storable (c : Dev nD) (a b : Ref sig .tc) (f g) : BI.Storable (upEmb : UEmb _ 𝕄) (cpPts (F := F) c a b f g) := by unfold cpPts; infer_instance
instance locPay_storable (c : Dev nD) (i : Fin 8) : BI.Storable (upEmb : UEmb _ 𝕄) (locPay m c i) := by
  fin_cases i <;> exact cpPts_storable c _ _ _ _

/-! ## The schedule -/

/-- One round: a barrier cell has a duty for each peer, every other cell in use a single one. -/
def semDuties : SemLoc sig → Finset (Fin 3)
  | .reg _ => Finset.univ
  | .dma j => if j.val < 35 ∨ (44 ≤ j.val ∧ j.val < 71) then {0} else ∅
/-- What one duty on a semaphore is worth. -/
def semAmount : SemLoc sig → ℕ
  | .reg _ => 1
  | .dma j => if h : j.val < 8 then locN ⟨j.val, h⟩ else N
/-- What duty `k` on a semaphore hands over. -/
def semPay (c : Dev nD) (k : Fin 3) : SemLoc sig → sProp 𝕄
  | .reg _ => barPay (peer k c) k
  | .dma j => if h : j.val < 8 then locPay m c ⟨j.val, h⟩ else if j.val < 44 then srcPts m c (j.val - 8) else cmPts m c (j.val - 44)

/-- The schedule: one round on every semaphore in use. -/
def Rd : Rounds.Schedule (GSem nD τ sig) (Fin 3) 𝕄 where
  duties g r := if r = 0 ∧ g.1.2 = .tc then semDuties g.2 else ∅
  unitless _ := False
  amount g _ _ := semAmount g.2
  payload g _ d := semPay m g.1.1 d g.2
  amount_pos g _ _ _ := by
    rcases g.2 with j | j
    all_goals dsimp only [semAmount]
    all_goals first
      | exact Nat.one_pos
      | (split
         · exact locN_pos _
         · exact N_pos)

instance Rd_payload_storable (g : GSem nD τ sig) (r : ℕ) (d : Fin 3) : BI.Storable (upEmb : UEmb _ 𝕄) ((Rd (F := F) m).payload g r d) := by
  show BI.Storable upEmb (semPay m g.1.1 d g.2)
  rcases g.2 with j | j
  all_goals dsimp only [semPay]
  all_goals (repeat' split) <;> infer_instance

section Sched
variable (c : Dev nD)

/-- The barrier has three duties, one for each peer. -/
theorem duties_bar : (Rd (F := F) m).duties (barCell c) 0 = Finset.univ := by
  dsimp only [Rd]; rw [if_pos ⟨rfl, rfl⟩]; rfl
/-- A copy's semaphore in use has one duty. -/
theorem duties_dma (j : DmaSem sig) (h : j.val < 35 ∨ (44 ≤ j.val ∧ j.val < 71)) :
    (Rd (F := F) m).duties ((c : Thread nD τ), .dma j) 0 = {0} := by
  dsimp only [Rd]; rw [if_pos ⟨rfl, rfl⟩]; exact if_pos h
/-- The duty of a local copy. -/
theorem duties_loc (i : Fin 8) : (Rd (F := F) m).duties (locCell c i) 0 = {0} :=
  duties_dma m c _ (.inl (by show i.val < 35; omega))
/-- The duty of a send. -/
theorem duties_send (e : Fin 27) : (Rd (F := F) m).duties (sendCell c e) 0 = {0} :=
  duties_dma m c _ (.inl (by show 8 + e.val < 35; omega))
/-- The duty of an arrival. -/
theorem duties_recv (e : Fin 27) : (Rd (F := F) m).duties (recvCell c e) 0 = {0} :=
  duties_dma m c _ (.inr (by show 44 ≤ 44 + e.val ∧ 44 + e.val < 71; omega))
/-- There is no second round. -/
theorem duties_later (g : GSem nD τ sig) : ∀ r, 1 ≤ r → (Rd (F := F) m).duties g r = ∅ :=
  fun r hr => if_neg fun h => by omega
/-- The spare semaphores have no duty. -/
theorem duties_none (j : DmaSem sig) (h : ¬ (j.val < 35 ∨ (44 ≤ j.val ∧ j.val < 71))) :
    ∀ r, 0 ≤ r → (Rd (F := F) m).duties ((c : Thread nD τ), .dma j) r = ∅ := fun r _ => by
  show (if r = 0 ∧ _ then semDuties (.dma j) else ∅) = ∅
  rw [show semDuties (.dma j) = ∅ from if_neg h, ite_self]

/-- A signal is worth one. -/
theorem amount_bar (d : Fin 3) : (Rd (F := F) m).amount (barCell c) 0 d = 1 := rfl
/-- What a local copy is worth. -/
theorem amount_loc (i : Fin 8) (d : Fin 3) : (Rd (F := F) m).amount (locCell c i) 0 d = locN i := dif_pos i.isLt
/-- What a send is worth. -/
theorem amount_send (e : Fin 27) (d : Fin 3) : (Rd (F := F) m).amount (sendCell c e) 0 d = N :=
  dif_neg (by show ¬ (8 + e.val < 8); omega)
/-- What an arrival is worth. -/
theorem amount_recv (e : Fin 27) (d : Fin 3) : (Rd (F := F) m).amount (recvCell c e) 0 d = N :=
  dif_neg (by show ¬ (44 + e.val < 8); omega)

/-- A signal hands over the sender's slots for this device. -/
theorem payload_bar (k : Fin 3) : (Rd (F := F) m).payload (barCell c) 0 k = barPay (peer k c) k := rfl
/-- What a local copy hands back. -/
theorem payload_loc (i : Fin 8) (d : Fin 3) : (Rd (F := F) m).payload (locCell c i) 0 d = locPay m c i := dif_pos i.isLt
/-- A finished send hands its share of the source slot back. -/
theorem payload_send (e : Fin 27) (d : Fin 3) : (Rd (F := F) m).payload (sendCell c e) 0 d = srcPts m c e.val := by
  refine (dif_neg (by show ¬ (8 + e.val < 8); omega)).trans ((if_pos (by show 8 + e.val < 44; omega)).trans ?_)
  show srcPts m c (8 + e.val - 8) = _
  rw [Nat.add_sub_cancel_left]
/-- An arrival hands the filled slot over. -/
theorem payload_recv (e : Fin 27) (d : Fin 3) : (Rd (F := F) m).payload (recvCell c e) 0 d = cmPts m c e.val := by
  refine (dif_neg (by show ¬ (44 + e.val < 8); omega)).trans ((if_neg (by show ¬ (44 + e.val < 44); omega)).trans ?_)
  show cmPts m c (44 + e.val - 44) = _
  rw [Nat.add_sub_cancel_left]

/-- The barrier waits for three. -/
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
/-- A local copy's wait. -/
theorem expect_loc (i : Fin 8) : (Rd (F := F) m).expect (locCell c i) 0 = locN i := by
  unfold Schedule.expect Schedule.amountOf; rw [duties_loc, Finset.sum_singleton, amount_loc]
/-- A send's wait. -/
theorem expect_send (e : Fin 27) : (Rd (F := F) m).expect (sendCell c e) 0 = N := by
  unfold Schedule.expect Schedule.amountOf; rw [duties_send, Finset.sum_singleton, amount_send]
/-- An arrival's wait. -/
theorem expect_recv (e : Fin 27) : (Rd (F := F) m).expect (recvCell c e) 0 = N := by
  unfold Schedule.expect Schedule.amountOf; rw [duties_recv, Finset.sum_singleton, amount_recv]

/-- What the barrier's wait yields. -/
theorem rest_bar : bigSep ((Rd (F := F) m).duties (barCell c) 0 \ ∅) (fun d => (Rd (F := F) m).payload (barCell c) 0 d)
    = bigSep Finset.univ fun k : Fin 3 => barPay (peer k c) k := by
  rw [Finset.sdiff_empty, duties_bar]; rfl
/-- What a local copy's wait yields. -/
theorem rest_loc (i : Fin 8) : bigSep ((Rd (F := F) m).duties (locCell c i) 0 \ ∅) (fun d => (Rd (F := F) m).payload (locCell c i) 0 d)
    = locPay m c i := by
  rw [Finset.sdiff_empty, duties_loc, bigSep_singleton, payload_loc]
/-- What a send's wait yields. -/
theorem rest_send (e : Fin 27) : bigSep ((Rd (F := F) m).duties (sendCell c e) 0 \ ∅) (fun d => (Rd (F := F) m).payload (sendCell c e) 0 d)
    = srcPts m c e.val := by
  rw [Finset.sdiff_empty, duties_send, bigSep_singleton, payload_send]
/-- What an arrival's wait yields. -/
theorem rest_recv (e : Fin 27) : bigSep ((Rd (F := F) m).duties (recvCell c e) 0 \ ∅) (fun d => (Rd (F := F) m).payload (recvCell c e) 0 d)
    = cmPts m c e.val := by
  rw [Finset.sdiff_empty, duties_recv, bigSep_singleton, payload_recv]

end Sched

/-! ## What a device owes, and the levels -/

/-- What device `c` still owes its peers' receive cells before its transfer `n`. -/
def owe (c : Dev nD) (n : ℕ) : CellTallies nD τ sig Unit :=
  ∑ e ∈ (Finset.univ : Finset (Fin 27)).filter (fun e => n ≤ e.val), tallyAt (recvCell (tgt c e.val) e) () N

/-- Transfer `e` pays one of the arrivals still owed. -/
theorem owe_step (c : Dev nD) (e : Fin 27) : owe c e.val = owe c (e.val + 1) + tallyAt (recvCell (tgt c e.val) e) () N := by
  unfold owe
  rw [show (Finset.univ : Finset (Fin 27)).filter (fun i => e.val ≤ i.val) = insert e (Finset.univ.filter (fun i => e.val + 1 ≤ i.val)) from ?_,
    Finset.sum_insert (by simp), add_comm]
  ext i
  simp only [Finset.mem_filter, Finset.mem_univ, true_and, Finset.mem_insert, Fin.ext_iff]
  omega

/-- After the last transfer nothing is owed. -/
theorem owe_end (c : Dev nD) : owe c 27 = 0 := by
  unfold owe
  rw [Finset.filter_false_of_mem (fun e _ => by have := e.isLt; omega), Finset.sum_empty]

/-- A sum of tallies is positive somewhere only if one of them is. -/
theorem sum_tally_pos {ι : Type} (s : Finset ι) (f : ι → CellTallies nD τ sig Unit) {g : GSem nD τ sig} {u : Unit}
    (h : 0 < (∑ i ∈ s, f i) g u) : ∃ i ∈ s, 0 < f i g u := by
  classical
  induction s using Finset.induction_on with
  | empty => exact absurd h (Nat.lt_irrefl 0)
  | insert a s ha ih =>
    rw [Finset.sum_insert ha, Pi.add_apply, Finsupp.add_apply] at h
    rcases Nat.eq_zero_or_pos (f a g u) with h0 | h0
    · obtain ⟨i, hi, hp⟩ := ih (by omega)
      exact ⟨i, Finset.mem_insert_of_mem hi, hp⟩
    · exact ⟨a, Finset.mem_insert_self _ _, h0⟩

/-- A tally is positive only at its own cell. -/
theorem tally_pos {g g' : GSem nD τ sig} {u u' : Unit} {n : ℕ} (h : 0 < (tallyAt g' u' n : CellTallies nD τ sig Unit) g u) : g = g' := by
  rw [tallyAt_apply] at h
  by_contra hn
  rw [if_neg (fun h' => hn h'.1)] at h
  exact Nat.lt_irrefl 0 h

/-- Whatever is owed is an arrival not yet sent. -/
theorem owe_pos {c : Dev nD} {n : ℕ} {g : GSem nD τ sig} {u : Unit} (h : 0 < owe c n g u) :
    ∃ e : Fin 27, n ≤ e.val ∧ g = recvCell (tgt c e.val) e := by
  obtain ⟨e, he, hp⟩ := sum_tally_pos _ _ h
  exact ⟨e, (Finset.mem_filter.mp he).2, tally_pos hp⟩

/-- The levels of a cell: one, on the core that runs the kernel. -/
def L (g : GSem nD τ sig) : Finset Unit := if g.1.2 = .tc then {()} else ∅
/-- Local copies and sends at the bottom, the barrier above them, the receives above that in the order of the transfers. -/
def lvSem : SemLoc sig → ℕ
  | .reg _ => 1
  | .dma j => if j.val < 44 then 0 else j.val
/-- A cell's level. -/
def lv (g : GSem nD τ sig) (_ : Unit) : ℕ := lvSem g.2

/-- Other cores have no level. -/
theorem L_of_ne (g : GSem nD τ sig) (h : g.1.2 ≠ .tc) : L g = ∅ := if_neg h
/-- The kernel's core has one. -/
theorem L_tc (c : Dev nD) (sm : SemLoc sig) : L ((c : Thread nD τ), sm) = {()} := if_pos rfl
/-- An arrival's level. -/
theorem lv_recv (c : Dev nD) (e : Fin 27) (u : Unit) : lv (recvCell c e) u = 44 + e.val :=
  if_neg (by show ¬ (44 + e.val < 44); omega)

/-- A device may wait at a cell below every receive cell it still owes. -/
theorem mayWait (c : Dev nD) (sm : SemLoc sig) (n : ℕ) (h : lvSem sm < 44 + n) :
    (levAts L lv : sProp 𝕄) ⊢ MayWait (c : Thread nD τ) sm () (owe c n) :=
  MayOwe.of_cut (L := L) (lev := lv) (lvSem sm) (fun p hp => by rw [Finset.mem_singleton.mp hp, L_tc]; exact Finset.mem_singleton_self _)
    (fun g u hg => by obtain ⟨e, _, rfl⟩ := owe_pos hg; rw [L_tc]; exact Finset.mem_singleton_self _)
    (fun p hp => by rw [Finset.mem_singleton.mp hp]; exact le_rfl)
    (fun g u hg => by obtain ⟨e, he, rfl⟩ := owe_pos hg; rw [lv_recv]; omega)

/-- The barrier's level. -/
theorem lvSem_bar : lvSem (.reg barS) = 1 := rfl
/-- A local copy's level. -/
theorem lvSem_loc (i : Fin 8) : lvSem (.dma (locIx i)) = 0 := if_pos (by show i.val < 44; omega)
/-- A send's level. -/
theorem lvSem_send (e : Fin 27) : lvSem (.dma (sendIx e)) = 0 := if_pos (by show 8 + e.val < 44; omega)
/-- An arrival's level, by its number. -/
theorem lvSem_recv (e : Fin 27) : lvSem (.dma (recvIx e)) = 44 + e.val := if_neg (by show ¬ (44 + e.val < 44); omega)

end Cert.Exchange

end
-- ==== Proof.Steps.lean ====
/-
The steps of the exchange: a rule for each of the kernel's operations, at any transfer, slot or copy.
-/
module

public import proofs.«01_k».proof.Proof.Sched

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families counted from the front -/

/-- One member of a family taken out. -/
theorem bigSep_out {I : Type} [DecidableEq I] {s : Finset I} {i : I} (h : i ∈ s) (Φ : I → sProp 𝕄) :
    bigSep s Φ = iprop(Φ i ∗ bigSep (s.erase i) Φ) := bigSep_erase h
/-- One member of a family, the rest let go. -/
theorem bigSep_mem {I : Type} [DecidableEq I] {s : Finset I} {i : I} (h : i ∈ s) (Φ : I → sProp 𝕄) :
    (bigSep s Φ : sProp 𝕄) ⊢ Φ i := bigSep_elim h

section Counted
variable {n : ℕ}

/-- The members of a family from number `k` on, and those before it. -/
def fromSep (k : ℕ) (Φ : Fin n → sProp 𝕄) : sProp 𝕄 := bigSep (Finset.univ.filter fun i : Fin n => k ≤ i.val) Φ
/-- The members of a family before number `k`. -/
def upSep (k : ℕ) (Φ : Fin n → sProp 𝕄) : sProp 𝕄 := bigSep (Finset.univ.filter fun i : Fin n => i.val < k) Φ

/-- The next member is taken from those to come. -/
theorem fromSep_step (i : Fin n) (Φ : Fin n → sProp 𝕄) : fromSep i.val Φ = iprop(Φ i ∗ fromSep (i.val + 1) Φ) := by
  unfold fromSep
  rw [show (Finset.univ.filter fun j : Fin n => i.val ≤ j.val) = insert i (Finset.univ.filter fun j : Fin n => i.val + 1 ≤ j.val) from ?_]
  · exact bigSep_insert (by simp)
  ext j
  simp only [Finset.mem_filter, Finset.mem_univ, true_and, Finset.mem_insert, Fin.ext_iff]
  omega

/-- The next member is added to those gone by. -/
theorem upSep_step (i : Fin n) (Φ : Fin n → sProp 𝕄) : upSep (i.val + 1) Φ = iprop(Φ i ∗ upSep i.val Φ) := by
  unfold upSep
  rw [show (Finset.univ.filter fun j : Fin n => j.val < i.val + 1) = insert i (Finset.univ.filter fun j : Fin n => j.val < i.val) from ?_]
  · exact bigSep_insert (by simp)
  ext j
  simp only [Finset.mem_filter, Finset.mem_univ, true_and, Finset.mem_insert, Fin.ext_iff]
  omega

/-- At the start all are to come. -/
theorem fromSep_zero (Φ : Fin n → sProp 𝕄) : fromSep 0 Φ = bigSep Finset.univ Φ := by
  unfold fromSep; rw [Finset.filter_true_of_mem fun i _ => Nat.zero_le _]
/-- At the end all have gone by. -/
theorem upSep_all (Φ : Fin n → sProp 𝕄) : upSep n Φ = bigSep Finset.univ Φ := by
  unfold upSep; rw [Finset.filter_true_of_mem fun i _ => i.isLt]
/-- At the end none is to come. -/
theorem fromSep_all (Φ : Fin n → sProp 𝕄) : fromSep n Φ = iprop(emp) := by
  unfold fromSep; rw [Finset.filter_false_of_mem fun i _ => Nat.not_le.mpr i.isLt, bigSep_empty]; rfl
/-- At the start none has gone by. -/
theorem upSep_zero (Φ : Fin n → sProp 𝕄) : upSep 0 Φ = iprop(emp) := by
  unfold upSep; rw [Finset.filter_false_of_mem fun i _ => Nat.not_lt_zero _, bigSep_empty]; rfl

/-- One member taken out, to be put back. -/
theorem upSep_look {k : ℕ} (i : Fin n) (h : i.val < k) (Φ : Fin n → sProp 𝕄) : upSep k Φ ⊢ iprop(Φ i ∗ (Φ i -∗ upSep k Φ)) := by
  unfold upSep
  rw [bigSep_out (i := i) (by simp [h])]
  iintro ⟨H, Hr⟩
  isplitl [H]; · iexact H
  iintro H
  isplitl [H] <;> iassumption
end Counted

/-! ## The state of a device's run -/

/-- No loop needs a variant. -/
abbrev 𝒱₀ : Variants := Variants.none

/-- A program's run on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- The names of the cells' invariants. -/
abbrev Names : Type := Dev nD × SemLoc sig → ℕ
/-- A cell by its device and semaphore. -/
abbrev kcell (ck : Dev nD × SemLoc sig) : GSem nD τ sig := ((ck.1 : Thread nD τ), ck.2)

/-- Every cell's invariant, and that its round has begun. -/
def recs (K : Names) : sProp 𝕄 :=
  bigSep Finset.univ fun ck : Dev nD × SemLoc sig => iprop(cellInv ER (Rd m) (K ck) (kcell ck) ∗ reached ER (kcell ck) 0)
instance recs_persistent (K : Names) : BI.Persistent (recs m K) := by unfold recs; infer_instance

/-- One cell's invariant, of all. -/
theorem recs_inv (K : Names) (c : Dev nD) (sm : SemLoc sig) : recs m K ⊢ cellInv ER (Rd m) (K (c, sm)) ((c : Thread nD τ), sm) := by
  unfold recs
  iintro H
  ihave H := (bigSep_mem (Finset.mem_univ (c, sm)) _) $$ H
  icases H with ⟨H, -⟩; iexact H
/-- Every cell has reached its first round. -/
theorem recs_reached (K : Names) (c : Dev nD) (sm : SemLoc sig) : recs m K ⊢ reached ER ((c : Thread nD τ), sm) 0 := by
  unfold recs
  iintro H
  ihave H := (bigSep_mem (Finset.mem_univ (c, sm)) _) $$ H
  icases H with ⟨-, H⟩; iexact H

/-- The invariants and the levels: kept throughout. -/
def env (K : Names) : sProp 𝕄 := iprop(recs m K ∗ levAts L lv)
instance env_persistent (K : Names) : BI.Persistent (env m K) := by unfold env; infer_instance
/-- The invariants, of the environment. -/
theorem env_recs (K : Names) : env m K ⊢ recs m K := by unfold env; iintro ⟨H, -⟩; iexact H
/-- The levels, of the environment. -/
theorem env_lev (K : Names) : env m K ⊢ (levAts L lv : sProp 𝕄) := by unfold env; iintro ⟨-, H⟩; iexact H

/-- What is owed before transfer `n`, whatever waits have been made. -/
def oweW (c : Dev nD) (n : ℕ) : sProp 𝕄 := iprop(∃ W, owes (c : Thread nD τ) (owe c n) W)

/-- What transfer `e` needs besides its source: the two duties it pays and the slot it writes. -/
def sendKit (c : Dev nD) (e : Fin 27) : sProp 𝕄 :=
  iprop(dutyTok ER (sendCell c e) 0 0 ∗ dutyTok ER (recvCell (tgt c e.val) e) 0 0 ∗ cmFree (tgt c e.val) e.val)

/-- The first `n` transfers started. -/
def Snd (c : Dev nD) (n : ℕ) : sProp 𝕄 :=
  iprop(oweW c n ∗ fromSep n (sendKit (F := F) c) ∗ upSep n (fun e : Fin 27 => (cred (tallyAt (sendCell c e) () N) : sProp 𝕄)))

/-- The first `n` transfers to the device waited for: their slots are filled. -/
def Rcv (c : Dev nD) (n : ℕ) : sProp 𝕄 :=
  iprop(fromSep n (fun e : Fin 27 => (iprop(cred (tallyAt (recvCell c e) () N) ∗ atPos ER (recvCell c e) 0 ∅ 0) : sProp 𝕄))
    ∗ upSep n (fun e : Fin 27 => (iprop(cmPts m c e.val ∗ semVal (recvCell c e) 0) : sProp 𝕄)))

/-- All transfers started and the first `n` of them waited for: their sources are back. -/
def Back (c : Dev nD) (n : ℕ) : sProp 𝕄 :=
  iprop(oweW c 27
    ∗ fromSep n (fun e : Fin 27 => (iprop(cred (tallyAt (sendCell c e) () N) ∗ atPos ER (sendCell c e) 0 ∅ 0) : sProp 𝕄))
    ∗ upSep n (fun e : Fin 27 => (iprop(srcPts m c e.val ∗ semVal (sendCell c e) 0) : sProp 𝕄)))

/-- At the start no send has been waited for. -/
theorem back_start (c : Dev nD) :
    iprop(Snd c 27 ∗ bigSep Finset.univ (fun e : Fin 27 => (atPos ER (sendCell c e) 0 ∅ 0 : sProp 𝕄))) ⊢ Back m c 0 := by
  unfold Snd Back
  rw [fromSep_all, fromSep_zero, upSep_zero]
  conv in upSep 27 _ => rw [upSep_all]
  rw [bigSep_sep']
  iintro ⟨⟨HO, -, HC⟩, HA⟩
  isplitl [HO]; · iexact HO
  isplitl [HC HA]
  · isplitl [HC]; · iexact HC
    iexact HA
  iempintro

/-! ## One transfer -/

section Steps
variable (K : Names) (c : Dev nD)

/-- Every send slot is worth the same. -/
theorem bslot_credit {off : Fin 3 → ℕ} (h : bInb off) : (bslot h).view.dmaCredit = N := rfl

/-- What a transfer writes is the slot's final contents. -/
theorem sent_eq (e : ℕ) {boff coff : Fin 3 → ℕ} (hb : bInb boff) (hc : cInb coff) (hbo : boff = ![srcSlot c e, 0, 0]) (hco : coff = ![e, 0, 0])
    (fd : Buf (Elt F) (cmLoc (tgt c e))) (i) (hi : i ∈ cset (tgt c e) e) :
    (cslot hc).view.write (Elt F) fd ((bslot hb).view.read (Elt F) (sbV m c)) Finset.univ i = cmV m (tgt c e) i := by
  rw [← cslot_set (tgt c e) hc hco] at hi
  obtain ⟨x, -, rfl⟩ := Finset.mem_map.mp hi
  refine (View.write_emb_of_mem _ _ (Finset.mem_univ x)).trans ?_
  show sbV m c ((Rect.unit (s := S12x16x512) boff S1x16x512.size hb).emb (Shape.reshapeEquiv _ x))
    = cmV m (tgt c e) ((Rect.unit (s := S36x16x512) coff S1x16x512.size hc).emb (Shape.reshapeEquiv _ x))
  obtain ⟨h0, h1⟩ := slot_emb (n := 12) hbo hb (Shape.reshapeEquiv squeezes_S1x16x512_S16x512.numel_eq x)
  obtain ⟨h2, h3⟩ := slot_emb (n := 36) hco hc (Shape.reshapeEquiv squeezes_S1x16x512_S16x512.numel_eq x)
  unfold sbV cmV
  rw [h0, h1, h2, h3, tgt_tgt]

/-- Transfer `e`: its share of the source slot goes in, and the next transfer is due. -/
theorem step_send (e : ℕ) (hE : e < 27) (n : Dev nD) (hn : n = tgt c e) {boff coff : Fin 3 → ℕ} {so ro : Fin 1 → ℕ}
    (hb : bInb boff) (hc : cInb coff) (hs : sInb so) (hr : sInb ro)
    (hbo : boff = ![srcSlot c e, 0, 0]) (hco : coff = ![e, 0, 0]) (hso : so = ![e]) (hro : ro = ![e])
    {hsc : (cslot hc : Memref sig (Dev.tc n : Thread nD τ).2.kind .vmem S16x512 .bf16).view.ref.isScScratch = false}
    {hsrc : (bslot hb).view.WordExact} {hdst : (cslot hc).view.WordExact}
    {hsem : DmaTarget.Typed .vmem (.dma (recvSem hr)) (.remote (Dev.tc n : Thread nD τ) (cslot hc) (.dma (sendSem hs)) hsc)}
    {α : Type} {Q : α → sProp 𝕄} {k : PUnit → Prog (TpuEff nD τ sig (Elt F) Λ₀ .tc) α} :
    env m K ⊢ iprop(Snd c e -∗ srcPts m c e -∗ (Snd c (e + 1) -∗ WP c (k ⟨⟩) Q)
          -∗ WP c (.op (.enqueueDma (bslot hb) (.remote (Dev.tc n : Thread nD τ) (cslot hc) (.dma (sendSem hs)) hsc) (.dma (recvSem hr)) hsrc hdst hsem) k) Q) := by
  obtain ⟨e, rfl⟩ : ∃ i : Fin 27, i.val = e := ⟨⟨e, hE⟩, rfl⟩
  subst hn
  generalize hsend : sendSem hs = ss at hsem ⊢
  generalize hrecv : recvSem hr = sr at hsem ⊢
  rw [sendSem_eq hs e hso] at hsend
  rw [recvSem_eq hr e hro] at hrecv
  subst hsend hrecv
  unfold Snd
  rw [fromSep_step e, upSep_step e]
  unfold sendKit oweW srcPts cmFree
  iintro #He ⟨⟨%W, HO⟩, ⟨⟨Ht1, Ht2, %fd, Hd⟩, HK⟩, HC⟩ Hs Hk
  ihave #Hrc := (env_recs m K) $$ He
  rw [← bslot_set c hb hbo, ← cslot_set (tgt c e.val) hc hco]
  iapply (Rounds.wp_send_pointsTo 𝒱₀ ER (Rd m) (c : Thread nD τ) none (κ₁ := K (c, .dma (sendIx e))) (κ₂ := K (tgt c e.val, .dma (recvIx e)))
    (c' := (tgt c e.val : Thread nD τ)) (fs := sbV m c)
    (r₁ := 0) (r₂ := 0) (d₁ := 0) (d₂ := 0) (fd := fd)
    (by rw [duties_send]; exact Finset.mem_singleton_self _) (by rw [duties_recv]; exact Finset.mem_singleton_self _)
    () () N (by exact cslot_credit hc) (amount_send m c e 0) (amount_recv m (tgt c e.val) e 0) (owe c (e.val + 1)) (owe_step c e) (W := W)
    (by rw [payload_send]; unfold srcPts; rw [← bslot_set c hb hbo])
    (by rw [payload_recv]; unfold cmPts; rw [cslot_set (tgt c e.val) hc hco]; rw [pointsTo_congr (sent_eq m c e.val hb hc hbo hco fd)]))
    $$ [HO Ht1 Ht2 Hd Hs]
  · isplitr; · iapply (recs_inv m K c _); iexact Hrc
    isplitr; · iapply (recs_inv m K (tgt c e.val) _); iexact Hrc
    isplitl [Hs]; · iexact Hs
    isplitl [Hd]; · iexact Hd
    isplitl [HO]; · iexact HO
    isplitl [Ht1]; · iexact Ht1
    isplitr; · iapply (recs_reached m K c _); iexact Hrc
    isplitl [Ht2]; · iexact Ht2
    iapply (recs_reached m K (tgt c e.val) _); iexact Hrc
  iintro ⟨HcS, HO⟩
  iapply Hk
  isplitl [HO]; · iexists W; iexact HO
  isplitl [HK]; · iexact HK
  isplitl [HcS] <;> iassumption

/-! ## A wait -/

/-- A wait for the whole of a cell's round: the payloads come, and the cell is closed at zero. -/
theorem step_wait (sm : SemLoc sig) (n : ℕ) {w : TpuEff nD τ sig (Elt F) Λ₀ .tc PUnit} {k' : ℕ}
    (hw : ∀ Q : PUnit → sProp 𝕄, wpE (defs₀ (F := F)) 𝒱₀ (c : Thread nD τ) none Set.univ w Q = waitSpec (c : Thread nD τ) Set.univ sm k' Q)
    (hk : k' = (Rd m).expect ((c : Thread nD τ), sm) 0) (hl : lvSem sm < 44 + n)
    {α : Type} {Q : α → sProp 𝕄} {k : PUnit → Prog (TpuEff nD τ sig (Elt F) Λ₀ .tc) α} :
    iprop(env m K ∗ cred (tallyAt ((c : Thread nD τ), sm) () k') ∗ oweW c n ∗ atPos ER ((c : Thread nD τ), sm) 0 ∅ 0)
      ⊢ iprop(((oweW c n ∗ semVal ((c : Thread nD τ), sm) 0
              ∗ bigSep ((Rd m).duties ((c : Thread nD τ), sm) 0 \ ∅) (fun d => (Rd m).payload ((c : Thread nD τ), sm) 0 d)) -∗ WP c (k ⟨⟩) Q)
          -∗ WP c (.op w k) Q) := by
  unfold oweW
  iintro ⟨#He, HC, ⟨%W, HO⟩, HA⟩ Hk
  ihave #Hrc := (env_recs m K) $$ He
  ihave #Hlv := (env_lev m K) $$ He
  iapply (Rounds.wp_wait_rest_token 𝒱₀ ER (Rd m) (c : Thread nD τ) none (κ := K (c, sm)) hw (Set.mem_univ _) () (O := owe c n) (W := W)
    (R := 0) (m := 0) (T := ∅) ((Nat.zero_add _).trans hk)) $$ [HC HO HA]
  · isplitr; · iapply (recs_inv m K c sm); iexact Hrc
    isplitl [HC]; · iexact HC
    isplitl [HO]; · iexact HO
    isplitr; · iapply (mayWait c sm n hl); iexact Hlv
    iexact HA
  iintro ⟨HO, HA, -, HP⟩
  imod (Rounds.cell_close ER (Rd m) (Set.mem_univ (K (c, sm))) (fun h => h) (R := 0 + 1) (duties_later m ((c : Thread nD τ), sm))) $$ [HA] with HZ
  · isplitr; · iapply (recs_inv m K c sm); iexact Hrc
    iexact HA
  iapply Hk
  isplitl [HO]; · iexists _; iexact HO
  isplitl [HZ] <;> iassumption

/-- The wait for transfer `e` to the device. -/
theorem step_recv (e : ℕ) (hE : e < 27) (n : ℕ) (hn : e < n) {boff coff : Fin 3 → ℕ} {ro : Fin 1 → ℕ}
    (hb : bInb boff) (hc : cInb coff) (hr : sInb ro) (hro : ro = ![e])
    {hsrc : (bslot hb).view.WordExact} {hdst : (cslot hc).view.WordExact}
    {α : Type} {Q : α → sProp 𝕄} {k : PUnit → Prog (TpuEff nD τ sig (Elt F) Λ₀ .tc) α} :
    env m K ⊢ iprop(Snd c n -∗ Rcv m c e -∗ (Snd c n -∗ Rcv m c (e + 1) -∗ WP c (k ⟨⟩) Q)
          -∗ WP c (.op (.waitDma2 (recvSem hr) (bslot hb) (cslot hc) hsrc hdst) k) Q) := by
  obtain ⟨e, rfl⟩ : ∃ i : Fin 27, i.val = e := ⟨⟨e, hE⟩, rfl⟩
  rw [recvSem_eq hr e hro]
  unfold Snd Rcv
  rw [fromSep_step e, upSep_step e]
  iintro #He ⟨HO, HK, HS⟩ ⟨⟨⟨HC, HA⟩, HF⟩, HU⟩ Hk
  iapply (step_wait m K c (.dma (recvIx e)) n (wpE_waitDma2_eq 𝒱₀ (c : Thread nD τ) none Set.univ)
    ((cslot_credit hc).trans (expect_recv m c e).symm) (by rw [lvSem_recv]; omega)) $$ [HO HC HA]
  · isplitr; · iexact He
    isplitl [HC]; · rw [cslot_credit]; iexact HC
    isplitl [HO] <;> iassumption
  iintro ⟨HO, HZ, HP⟩
  ihave HP := (Entails.of_eq (rest_recv m c e)) $$ HP
  iapply Hk $$ [HO HK HS]
  · isplitl [HO]; · iexact HO
    isplitl [HK] <;> iassumption
  isplitl [HF]; · iexact HF
  isplitl [HZ HP]
  · isplitl [HP] <;> iassumption
  iexact HU

/-- The wait for transfer `e` of the device itself to have been read. -/
theorem step_back (e : ℕ) (hE : e < 27) {boff coff : Fin 3 → ℕ} {so : Fin 1 → ℕ}
    (hb : bInb boff) (hc : cInb coff) (hs : sInb so) (hso : so = ![e])
    {hsrc : (cslot hc).view.WordExact} {hdst : (bslot hb).view.WordExact}
    {α : Type} {Q : α → sProp 𝕄} {k : PUnit → Prog (TpuEff nD τ sig (Elt F) Λ₀ .tc) α} :
    env m K ⊢ iprop(Back m c e -∗ (Back m c (e + 1) -∗ WP c (k ⟨⟩) Q)
          -∗ WP c (.op (.waitDma2 (sendSem hs) (cslot hc) (bslot hb) hsrc hdst) k) Q) := by
  obtain ⟨e, rfl⟩ : ∃ i : Fin 27, i.val = e := ⟨⟨e, hE⟩, rfl⟩
  rw [sendSem_eq hs e hso]
  unfold Back
  rw [fromSep_step e, upSep_step e]
  iintro #He ⟨HO, ⟨⟨HC, HA⟩, HF⟩, HU⟩ Hk
  iapply (step_wait m K c (.dma (sendIx e)) 27 (wpE_waitDma2_eq 𝒱₀ (c : Thread nD τ) none Set.univ)
    ((bslot_credit hb).trans (expect_send m c e).symm) (by rw [lvSem_send]; omega)) $$ [HO HC HA]
  · isplitr; · iexact He
    isplitl [HC]; · rw [bslot_credit]; iexact HC
    isplitl [HO] <;> iassumption
  iintro ⟨HO, HZ, HP⟩
  ihave HP := (Entails.of_eq (rest_send m c e)) $$ HP
  iapply Hk
  isplitl [HO]; · iexact HO
  isplitl [HF]; · iexact HF
  isplitl [HZ HP]
  · isplitl [HP] <;> iassumption
  iexact HU

/-- A load of a received slot. -/
theorem step_cm (e : ℕ) (hE : e < 27) (n : ℕ) (hn : e < n) {off : Fin 3 → ℕ} (hc : cInb off) (hoff : off = ![e, 0, 0])
    {hl : cmM.view.LoadsAt (Rect.unit (s := S36x16x512) off S1x16x512.size hc).toLoadRect}
    {α : Type} {Q : α → sProp 𝕄} {k : Vec F S1x16x512 .bf16 → Prog (TpuEff nD τ sig (Elt F) Λ₀ .tc) α} :
    Rcv m c n ⊢ iprop((Rcv m c n -∗ WP c (k (wire (slotPart m c e))) Q)
          -∗ WP c (.op (.load cmM (Rect.unit (s := S36x16x512) off S1x16x512.size hc).toLoadRect hl) k) Q) := by
  obtain ⟨e, rfl⟩ : ∃ i : Fin 27, i.val = e := ⟨⟨e, hE⟩, rfl⟩
  unfold Rcv
  iintro ⟨HF, HU⟩ Hk
  ihave HU := (upSep_look e hn _) $$ HU
  icases HU with ⟨⟨HP, HZ⟩, HW⟩
  unfold cmPts
  iapply (wp_load 𝒱₀ (c : Thread nD τ) none Set.univ (m := cmM) (S := cset c e.val) (f := cmV m c) ?_) $$ HP
  · rw [← cslot_set c hc hoff]
    exact (View.set_slice _ _).symm.subset.trans (View.set_reshape _ _).symm.subset
  rw [read_cm m c hoff hc]
  iintro HP
  iapply Hk
  isplitl [HF]; · iexact HF
  iapply HW
  isplitl [HP] <;> iassumption

/-! ## The send buffer -/

/-- Its slots from number `s` on, not yet written. -/
def Sb (c : Dev nD) (s : ℕ) : sProp 𝕄 :=
  fromSep s (fun i : Fin 12 => (iprop(∃ f : Buf (Elt F) (sbLoc c), sbLoc c ↦[bset c i.val]{fullShare} f) : sProp 𝕄))
/-- The last layer's slots, written: the first `j` chunks. -/
def Sl (c : Dev nD) (j : ℕ) : sProp 𝕄 :=
  upSep j (fun i : Fin 4 => (sbLoc c ↦[bset c (8 + i.val)]{fullShare} sbV m c : sProp 𝕄))

/-- The elements that a store into a slot touches are the slot's. -/
theorem rect_sub {off : Fin 3 → ℕ} (hb : bInb off) {s : ℕ} (hoff : off = ![s, 0, 0]) :
    sbM.view.setOn (Rect.unit (s := S12x16x512) off S1x16x512.size hb).set ⊆ bset c s := by
  rw [← bslot_set c hb hoff]
  exact (View.set_slice _ _).symm.subset.trans (View.set_reshape _ _).symm.subset

/-- They are all of them. -/
theorem access_set {off : Fin 3 → ℕ} (hb : bInb off) {s : ℕ} (hoff : off = ![s, 0, 0]) :
    (sbM.access (Rect.unit (s := S12x16x512) off S1x16x512.size hb)).set = bset c s :=
  (View.set_reshape _ _).symm.trans (bslot_set c hb hoff)

/-- A load of a slot not yet written: the value is not used. -/
theorem step_sbload (s : ℕ) (hE : s < 12) {off : Fin 3 → ℕ} (hb : bInb off) (hoff : off = ![s, 0, 0])
    {hl : sbM.view.LoadsAt (Rect.unit (s := S12x16x512) off S1x16x512.size hb).toLoadRect}
    {α : Type} {Q : α → sProp 𝕄} {k : Vec F S1x16x512 .bf16 → Prog (TpuEff nD τ sig (Elt F) Λ₀ .tc) α} :
    Sb c s ⊢ iprop((∀ v, Sb c s -∗ WP c (k v) Q)
          -∗ WP c (.op (.load sbM (Rect.unit (s := S12x16x512) off S1x16x512.size hb).toLoadRect hl) k) Q) := by
  obtain ⟨s, rfl⟩ : ∃ i : Fin 12, i.val = s := ⟨⟨s, hE⟩, rfl⟩
  unfold Sb
  rw [fromSep_step s]
  iintro ⟨⟨%f, HP⟩, HU⟩ Hk
  iapply (wp_load 𝒱₀ (c : Thread nD τ) none Set.univ (m := sbM) (S := bset c s.val) (f := f) (rect_sub c hb hoff)) $$ HP
  iintro HP
  iapply Hk
  isplitl [HP]; · iexists f; iexact HP
  iexact HU

/-- Storing a part into its slot leaves there what the schedule names. -/
theorem stored_eq (s : ℕ) {off : Fin 3 → ℕ} (hb : bInb off) (hoff : off = ![s, 0, 0]) (f : Buf (Elt F) (sbLoc c))
    (i) (hi : i ∈ bset c s) :
    (sbM.access (Rect.unit (s := S12x16x512) off S1x16x512.size hb)).write (Elt F) f (wire (part m (s / 4) (s % 4) c)) Finset.univ i = sbV m c i := by
  rw [← access_set c hb hoff] at hi
  obtain ⟨x, -, rfl⟩ := Finset.mem_map.mp hi
  refine (View.write_emb_of_mem _ _ (Finset.mem_univ x)).trans ?_
  show wire (part m (s / 4) (s % 4) c) x = sbV m c ((Rect.unit (s := S12x16x512) off S1x16x512.size hb).emb x)
  obtain ⟨h0, h1⟩ := slot_emb (n := 12) hoff hb x
  unfold sbV
  rw [h0, h1]

/-- The store of a part into its slot. -/
theorem step_store (s : ℕ) (hE : s < 12) {off : Fin 3 → ℕ} (hb : bInb off) (hoff : off = ![s, 0, 0]) {w : Vec F S1x16x512 .bf16}
    (hw : w = wire (part m (s / 4) (s % 4) c))
    {hx : (sbM.access (Rect.unit (s := S12x16x512) off S1x16x512.size hb)).Stores Finset.univ} {hm}
    {α : Type} {Q : α → sProp 𝕄} {k : PUnit → Prog (TpuEff nD τ sig (Elt F) Λ₀ .tc) α} :
    Sb c s ⊢ iprop((Sb c (s + 1) -∗ (sbLoc c ↦[bset c s]{fullShare} sbV m c) -∗ WP c (k ⟨⟩) Q)
          -∗ WP c (.op (.store sbM (Rect.unit (s := S12x16x512) off S1x16x512.size hb) w Finset.univ hx hm) k) Q) := by
  obtain ⟨s, rfl⟩ : ∃ i : Fin 12, i.val = s := ⟨⟨s, hE⟩, rfl⟩
  subst hw
  unfold Sb
  rw [fromSep_step s]
  iintro ⟨⟨%f, HP⟩, HU⟩ Hk
  iapply (wp_store 𝒱₀ (c : Thread nD τ) none Set.univ (m := sbM) (r := Rect.unit (s := S12x16x512) off S1x16x512.size hb) (S := bset c s.val) (f := f) (access_set c hb hoff).subset) $$ HP
  iintro HP
  ihave HP := (Entails.of_eq (pointsTo_congr (stored_eq m c s.val hb hoff f))) $$ HP
  iapply Hk $$ HU HP

/-- A written slot in three parts, one for each transfer that reads it. -/
theorem src_split (s : Fin 8) : (sbLoc c ↦[bset c s.val]{fullShare} sbV m c : sProp 𝕄)
    ⊣⊢ iprop(srcPts m c (3 * s.val) ∗ srcPts m c (3 * s.val + 1) ∗ srcPts m c (3 * s.val + 2)) := by
  have hs := s.isLt
  unfold srcPts
  rw [srcSlot_early c (e := 3 * s.val) (by omega), srcSlot_early c (e := 3 * s.val + 1) (by omega), srcSlot_early c (e := 3 * s.val + 2) (by omega),
    show 3 * s.val / 3 = s.val by omega, show (3 * s.val + 1) / 3 = s.val by omega, show (3 * s.val + 2) / 3 = s.val by omega,
    show qOf (3 * s.val) = fullShare.left by unfold qOf; rw [if_pos (by omega), show kOf (3 * s.val) = 0 from Fin.ext (by show _ % 3 = 0; omega)]; rfl,
    show qOf (3 * s.val + 1) = fullShare.right.left by unfold qOf; rw [if_pos (by omega), show kOf (3 * s.val + 1) = 1 from Fin.ext (by show _ % 3 = 1; omega)]; rfl,
    show qOf (3 * s.val + 2) = fullShare.right.right by unfold qOf; rw [if_pos (by omega), show kOf (3 * s.val + 2) = 2 from Fin.ext (by show _ % 3 = 2; omega)]; rfl]
  constructor
  · iintro H
    ihave H := (pointsTo_share (PosShare.mem_left_op_right fullShare)).1 $$ H
    icases H with ⟨H1, H⟩
    ihave H := (pointsTo_share (PosShare.mem_left_op_right fullShare.right)).1 $$ H
    isplitl [H1]; · iexact H1
    iexact H
  · iintro ⟨H1, H2⟩
    ihave H := (pointsTo_share (PosShare.mem_left_op_right fullShare.right)).2 $$ H2
    iapply (pointsTo_share (PosShare.mem_left_op_right fullShare)).2
    isplitl [H1] <;> iassumption

/-- The store of a chunk's part of the first two layers: its slot is ready for the three transfers. -/
theorem step_early (s : ℕ) (hE : s < 8) {off : Fin 3 → ℕ} (hb : bInb off) (hoff : off = ![s, 0, 0]) {w : Vec F S1x16x512 .bf16}
    (hw : w = wire (part m (s / 4) (s % 4) c))
    {hx : (sbM.access (Rect.unit (s := S12x16x512) off S1x16x512.size hb)).Stores Finset.univ} {hm}
    {α : Type} {Q : α → sProp 𝕄} {k : PUnit → Prog (TpuEff nD τ sig (Elt F) Λ₀ .tc) α} :
    Sb c s ⊢ iprop((Sb c (s + 1) -∗ srcPts m c (3 * s) -∗ srcPts m c (3 * s + 1) -∗ srcPts m c (3 * s + 2) -∗ WP c (k ⟨⟩) Q)
          -∗ WP c (.op (.store sbM (Rect.unit (s := S12x16x512) off S1x16x512.size hb) w Finset.univ hx hm) k) Q) := by
  obtain ⟨s, rfl⟩ : ∃ i : Fin 8, i.val = s := ⟨⟨s, hE⟩, rfl⟩
  iintro HB Hk
  iapply (step_store m c s.val (by have := s.isLt; omega) hb hoff hw) $$ HB
  iintro HB HP
  ihave HP := (src_split m c s).1 $$ HP
  icases HP with ⟨H1, H2, H3⟩
  iapply Hk $$ HB H1 H2 H3

/-- The store of a chunk's part of the last layer. -/
theorem step_late (j : ℕ) (hE : j < 4) {off : Fin 3 → ℕ} (hb : bInb off) (hoff : off = ![8 + j, 0, 0]) {w : Vec F S1x16x512 .bf16}
    (hw : w = wire (part m 2 j c))
    {hx : (sbM.access (Rect.unit (s := S12x16x512) off S1x16x512.size hb)).Stores Finset.univ} {hm}
    {α : Type} {Q : α → sProp 𝕄} {k : PUnit → Prog (TpuEff nD τ sig (Elt F) Λ₀ .tc) α} :
    Sb c (8 + j) ⊢ iprop(Sl m c j -∗ (Sb c (8 + j + 1) -∗ Sl m c (j + 1) -∗ WP c (k ⟨⟩) Q)
          -∗ WP c (.op (.store sbM (Rect.unit (s := S12x16x512) off S1x16x512.size hb) w Finset.univ hx hm) k) Q) := by
  obtain ⟨j, rfl⟩ : ∃ i : Fin 4, i.val = j := ⟨⟨j, hE⟩, rfl⟩
  have hj := j.isLt
  iintro HB HL Hk
  iapply (step_store m c (8 + j.val) (by omega) hb hoff (hw.trans (by
    rw [show (8 + j.val) / 4 = 2 by omega, show (8 + j.val) % 4 = j.val by omega]))) $$ HB
  iintro HB HP
  iapply Hk $$ HB
  unfold Sl
  rw [upSep_step j]
  isplitl [HP] <;> iassumption

/-- The last three transfers' sources, one slot each, and the device's own slot. -/
theorem late_split : Sl m c 4 ⊣⊢ iprop(srcPts m c 24 ∗ srcPts m c 25 ∗ srcPts m c 26
    ∗ (sbLoc c ↦[bset c (8 + c.val)]{fullShare} sbV m c)) := by
  have hc : c.val < 4 := c.isLt
  have hk : ∀ k : Fin 3, srcPts m c (24 + k.val) = (sbLoc c ↦[bset c (8 + (peer k c).val)]{fullShare} sbV m c : sProp 𝕄) := fun k => by
    unfold srcPts qOf
    rw [if_neg (by omega), srcSlot_late c (by omega), tgt, show kOf (24 + k.val) = k from Fin.ext (by show _ % 3 = _; have := k.isLt; omega)]
  unfold Sl
  rw [upSep_all, bigSep_out (i := peer 0 c) (Finset.mem_univ _),
    bigSep_out (i := peer 1 c) (s := Finset.univ.erase (peer 0 c)) (by clear hk hc; revert c; decide),
    bigSep_out (i := peer 2 c) (s := (Finset.univ.erase (peer 0 c)).erase (peer 1 c)) (by clear hk hc; revert c; decide),
    show ((Finset.univ.erase (peer 0 c)).erase (peer 1 c)).erase (peer 2 c) = {c} by clear hk hc; revert c; decide, bigSep_singleton,
    show srcPts m c 24 = _ from hk 0, show srcPts m c 25 = _ from hk 1, show srcPts m c 26 = _ from hk 2]

/-- A transfer of one of the first two layers. -/
theorem step_send' (e : ℕ) (hE : e < 27) (he : e < 24) (n : Dev nD) (hn : n = tgt c e) {boff coff : Fin 3 → ℕ} {so ro : Fin 1 → ℕ}
    {hb : bInb boff} {hc : cInb coff} {hs : sInb so} {hr : sInb ro}
    (hbo : boff = ![e / 3, 0, 0]) (hco : coff = ![e, 0, 0]) (hso : so = ![e]) (hro : ro = ![e])
    {hsc : (cslot hc : Memref sig (Dev.tc n : Thread nD τ).2.kind .vmem S16x512 .bf16).view.ref.isScScratch = false}
    {hsrc : (bslot hb).view.WordExact} {hdst : (cslot hc).view.WordExact}
    {hsem : DmaTarget.Typed .vmem (.dma (recvSem hr)) (.remote (Dev.tc n : Thread nD τ) (cslot hc) (.dma (sendSem hs)) hsc)}
    {α : Type} {Q : α → sProp 𝕄} {k : PUnit → Prog (TpuEff nD τ sig (Elt F) Λ₀ .tc) α} :
    env m K ⊢ iprop(Snd c e -∗ srcPts m c e -∗ (Snd c (e + 1) -∗ WP c (k ⟨⟩) Q)
          -∗ WP c (.op (.enqueueDma (bslot hb) (.remote (Dev.tc n : Thread nD τ) (cslot hc) (.dma (sendSem hs)) hsc) (.dma (recvSem hr)) hsrc hdst hsem) k) Q) :=
  step_send m K c e hE n hn hb hc hs hr (by rw [hbo, srcSlot_early c he]) hco hso hro

/-- A load of a slot received in one of the first two exchanges. -/
theorem step_cm' (e : ℕ) (hE : e < 27) (he : e < 24) (n : ℕ) (hn : e < n) {off : Fin 3 → ℕ} {hc : cInb off} (hoff : off = ![e, 0, 0])
    {hl : cmM.view.LoadsAt (Rect.unit (s := S36x16x512) off S1x16x512.size hc).toLoadRect}
    {α : Type} {Q : α → sProp 𝕄} {k : Vec F S1x16x512 .bf16 → Prog (TpuEff nD τ sig (Elt F) Λ₀ .tc) α} :
    Rcv m c n ⊢ iprop((Rcv m c n -∗ WP c (k (wire (part m (e / 3 / 4) (e / 3 % 4) (tgt c e)))) Q)
          -∗ WP c (.op (.load cmM (Rect.unit (s := S36x16x512) off S1x16x512.size hc).toLoadRect hl) k) Q) := by
  obtain ⟨e, rfl⟩ : ∃ i : Fin 27, i.val = e := ⟨⟨e, hE⟩, rfl⟩
  rw [← slotPart_early m c he]
  exact step_cm m c e.val e.isLt n hn hc hoff

end Steps

end Cert.Exchange

end
-- ==== Proof.Steps2.lean ====
/-
The steps of the exchange, continued: the barrier, the local copies and the stage buffer.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Steps
variable (K : Names) (c : Dev nD)

/-! ## The barrier -/

/-- What is owed before the signal to peer `k`: every receive, and the signals still to be given. -/
def oweB (c : Dev nD) (k : ℕ) : CellTallies nD τ sig Unit :=
  owe c 0 + ∑ i ∈ (Finset.univ : Finset (Fin 3)).filter (fun i => k ≤ i.val), tallyAt (barCell (peer i c)) () 1

/-- Signal `k` pays one of the signals still owed. -/
theorem oweB_step (k : Fin 3) : oweB c k.val = oweB c (k.val + 1) + tallyAt (barCell (peer k c)) () 1 := by
  unfold oweB
  rw [show (Finset.univ : Finset (Fin 3)).filter (fun i => k.val ≤ i.val) = insert k (Finset.univ.filter (fun i => k.val + 1 ≤ i.val)) from ?_,
    Finset.sum_insert (by simp), add_assoc]
  · congr 1; exact add_comm _ _
  ext i
  simp only [Finset.mem_filter, Finset.mem_univ, true_and, Finset.mem_insert, Fin.ext_iff]
  omega
/-- After the three signals only the arrivals are owed. -/
theorem oweB_end : oweB c 3 = owe c 0 := by
  unfold oweB
  rw [Finset.filter_false_of_mem (fun i _ => by have := i.isLt; omega), Finset.sum_empty, add_zero]

/-- The first `k` peers signalled. -/
def Sig (c : Dev nD) (k : ℕ) : sProp 𝕄 :=
  iprop((∃ W, owes (c : Thread nD τ) (oweB c k) W)
    ∗ fromSep k (fun i : Fin 3 => (iprop(dutyTok ER (barCell (peer i c)) 0 i ∗ barPay c i) : sProp 𝕄)))

/-- Signal `i`: the slots for that peer go with it. -/
theorem step_signal (i : ℕ) (hE : i < 3) (n : Dev nD) (hn : n = peer ⟨i, hE⟩ c)
    {α : Type} {Q : α → sProp 𝕄} {k : PUnit → Prog (TpuEff nD τ sig (Elt F) Λ₀ .tc) α} :
    env m K ⊢ iprop(Sig c i -∗ (Sig c (i + 1) -∗ WP c (k ⟨⟩) Q) -∗ WP c (.op (.semSignal (n, .tc) barS (1#32 : BitVec 32).toInt) k) Q) := by
  generalize hi : (⟨i, hE⟩ : Fin 3) = j at hn
  obtain rfl : i = j.val := by rw [← hi]
  clear hi hE
  rename' j => i
  subst hn
  unfold Sig
  rw [fromSep_step i]
  iintro #He ⟨⟨%W, HO⟩, ⟨HT, HP⟩, HR⟩ Hk
  ihave #Hrc := (env_recs m K) $$ He
  iapply (Rounds.wp_signal 𝒱₀ ER (Rd m) (c : Thread nD τ) none (dst := (peer i c : Thread nD τ)) (κ := K (peer i c, .reg barS))
      (d := i) (by rw [duties_bar]; exact Finset.mem_univ _) ((amount_bar m (peer i c) i).trans (by decide)) () (oweB c (i.val + 1)) (oweB_step c i))
    $$ [HO HT HP]
  · isplitr; · iapply (recs_inv m K (peer i c) _); iexact Hrc
    isplitl [HO]; · iexact HO
    isplitl [HT]; · iexact HT
    isplitl [HP]; · rw [payload_bar, peer_peer]; iexact HP
    iapply (recs_reached m K (peer i c) _); iexact Hrc
  iintro HO
  iapply Hk
  isplitl [HO]; · iexists W; iexact HO
  iexact HR

/-- After the signals the device owes the arrivals. -/
theorem sig_end : Sig (F := F) c 3 ⊢ oweW c 0 := by
  unfold Sig oweW
  rw [oweB_end]
  iintro ⟨H, -⟩; iexact H

/-- The two duties transfer `e` pays. -/
def sendToks (c : Dev nD) (e : Fin 27) : sProp 𝕄 := iprop(dutyTok ER (sendCell c e) 0 0 ∗ dutyTok ER (recvCell (tgt c e.val) e) 0 0)

/-- Transfers by exchange and peer. -/
def eEquiv : Fin 9 × Fin 3 ≃ Fin 27 := finProdFinEquiv
/-- The transfer of an exchange and a peer. -/
theorem eEquiv_apply (j : Fin 9) (k : Fin 3) : eEquiv (j, k) = eOf j k := by
  apply Fin.ext; show k.val + 3 * j.val = 3 * j.val + k.val; omega
/-- The peer of that transfer. -/
theorem kOf_eOf (j : Fin 9) (k : Fin 3) : kOf (eOf j k).val = k := by
  apply Fin.ext; show (3 * j.val + k.val) % 3 = k.val; have := k.isLt; omega

/-- The slots the three peers hand over are the ones the transfers write. -/
theorem bar_slots : (bigSep Finset.univ fun k : Fin 3 => barPay (F := F) (peer k c) k)
    = bigSep Finset.univ fun e : Fin 27 => cmFree (tgt c e.val) e.val := by
  rw [bigSep_univ_equiv eEquiv, bigSep_univ_prod, bigSep_univ_comm]
  refine bigSep_congr fun k _ => bigSep_congr fun j _ => ?_
  rw [eEquiv_apply, tgt, kOf_eOf]

/-- The wait for the three peers' signals: the slots the device will write. -/
theorem step_bar {α : Type} {Q : α → sProp 𝕄} {k : PUnit → Prog (TpuEff nD τ sig (Elt F) Λ₀ .tc) α} :
    env m K ⊢ iprop(oweW c 0 -∗ (cred (tallyAt (barCell c) () 3) ∗ atPos ER (barCell c) 0 ∅ 0) -∗ bigSep Finset.univ (sendToks (F := F) c) -∗
      (Snd c 0 -∗ semVal (barCell c) 0 -∗ WP c (k ⟨⟩) Q) -∗ WP c (.op (.semWait barS (3#32 : BitVec 32).toInt) k) Q) := by
  iintro #He HO ⟨HC, HA⟩ HT Hk
  iapply (step_wait m K c (.reg barS) 0 (wpE_semWait_eq 𝒱₀ (c : Thread nD τ) none Set.univ) (by rw [expect_bar]; decide)
    (by rw [lvSem_bar]; decide)) $$ [HO HC HA]
  · isplitr; · iexact He
    isplitl [HC]; · iexact HC
    isplitl [HO] <;> iassumption
  iintro ⟨HO, HZ, HP⟩
  ihave HP := (Entails.of_eq ((rest_bar m c).trans (bar_slots c))) $$ HP
  iapply Hk $$ [HO HP HT]
  · unfold Snd
    rw [fromSep_zero, upSep_zero]
    isplitl [HO]; · iexact HO
    isplitl
    · unfold sendKit sendToks
      simp only [bigSep_sep']
      icases HT with ⟨H1, H2⟩
      isplitl [H1]; · iexact H1
      isplitl [H2] <;> iassumption
    · iempintro
  iexact HZ

/-! ## The local copies -/

/-- A local copy before its start: its duty and its wait's position; while it runs: the credit for the wait. -/
def Cold (c : Dev nD) (i : Fin 8) : sProp 𝕄 := iprop(dutyTok ER (locCell c i) 0 0 ∗ atPos ER (locCell c i) 0 ∅ 0)
/-- A local copy while it runs: the credit for its wait. -/
def Fly (c : Dev nD) (i : Fin 8) : sProp 𝕄 := iprop(cred (tallyAt (locCell c i) () (locN i)) ∗ atPos ER (locCell c i) 0 ∅ 0)
/-- And once it has been waited for. -/
def Win (c : Dev nD) (i : Fin 8) : sProp 𝕄 := iprop(locPay m c i ∗ semVal (locCell c i) 0)

section Copy
variable {sp sp' : Space} {s : Shape} {t : EltTy}

/-- A local copy starts: both buffers go in. -/
theorem step_copy (i : Fin 8) {src : Memref sig .tc sp s t} {dst : Memref sig .tc sp' s t} {sem : DmaSem sig}
    (hsm : sem = locIx i) (hN : dst.view.dmaCredit = locN i) (hS : src.view.set = Finset.univ) (hD : dst.view.set = Finset.univ)
    {fs : Buf (Elt F) (src.view.loc (c : Thread nD τ))} {g : Buf (Elt F) (dst.view.loc (c : Thread nD τ))}
    (hg : ∀ fd, dst.view.write (Elt F) fd (src.view.read (Elt F) fs) Finset.univ = g)
    (hp : locPay m c i = iprop((dst.view.loc (c : Thread nD τ) ↦{fullShare} g) ∗ (src.view.loc (c : Thread nD τ) ↦{fullShare} fs)))
    {hsrc : src.view.WordExact} {hdst : dst.view.WordExact} {hsem : (DmaTarget.here dst : DmaTarget nD τ sig .tc sp' s t).Typed sp (.dma sem)}
    {α : Type} {Q : α → sProp 𝕄} {k : PUnit → Prog (TpuEff nD τ sig (Elt F) Λ₀ .tc) α} :
    env m K ⊢ iprop(Cold c i -∗ (src.view.loc (c : Thread nD τ) ↦{fullShare} fs)
        -∗ (∃ fd : Buf (Elt F) (dst.view.loc (c : Thread nD τ)), dst.view.loc (c : Thread nD τ) ↦{fullShare} fd)
        -∗ (Fly c i -∗ WP c (k ⟨⟩) Q) -∗ WP c (.op (.enqueueDma src (.here dst) (.dma sem) hsrc hdst hsem) k) Q) := by
  subst hsm
  unfold Cold Fly
  iintro #He ⟨HT, HA⟩ Hs ⟨%fd, Hd⟩ Hk
  ihave #Hrc := (env_recs m K) $$ He
  iapply (Rounds.wp_copy_pointsTo 𝒱₀ ER (Rd m) (c : Thread nD τ) none (κ := K (c, .dma (locIx i))) (r := 0) (d := 0) (q := fullShare) (fs := fs) (fd := fd)
    (by rw [duties_loc]; exact Finset.mem_singleton_self _) () (locN i) (by exact hN) (amount_loc m c i 0)
    (by rw [payload_loc, hp, hS, hD, hg])) $$ [HT Hs Hd]
  · rw [hS, hD]
    isplitr; · iapply (recs_inv m K c _); iexact Hrc
    isplitl [Hs]; · iexact Hs
    isplitl [Hd]; · iexact Hd
    isplitl [HT]; · iexact HT
    iapply (recs_reached m K c _); iexact Hrc
  iintro HC
  iapply Hk
  isplitl [HC] <;> iassumption

/-- The wait for a local copy: both buffers come back, the destination filled. -/
theorem step_landed (i : Fin 8) (n : ℕ) {src : Memref sig .tc sp s t} {dst : Memref sig .tc sp' s t} {sem : DmaSem sig}
    (hsm : sem = locIx i) (hN : dst.view.dmaCredit = locN i) {hsrc : src.view.WordExact} {hdst : dst.view.WordExact}
    {α : Type} {Q : α → sProp 𝕄} {k : PUnit → Prog (TpuEff nD τ sig (Elt F) Λ₀ .tc) α} :
    env m K ⊢ iprop(oweW c n -∗ Fly c i -∗ (oweW c n -∗ Win m c i -∗ WP c (k ⟨⟩) Q) -∗ WP c (.op (.waitDma2 sem src dst hsrc hdst) k) Q) := by
  subst hsm
  unfold Fly Win
  iintro #He HO ⟨HC, HA⟩ Hk
  iapply (step_wait m K c (.dma (locIx i)) n (wpE_waitDma2_eq 𝒱₀ (c : Thread nD τ) none Set.univ)
    (hN.trans (expect_loc m c i).symm) (by rw [lvSem_loc]; omega)) $$ [HO HC HA]
  · isplitr; · iexact He
    isplitl [HC]; · rw [hN]; iexact HC
    isplitl [HO] <;> iassumption
  iintro ⟨HO, HZ, HP⟩
  ihave HP := (Entails.of_eq (rest_loc m c i)) $$ HP
  iapply Hk $$ HO
  isplitl [HP] <;> iassumption

/-- A wait for a local copy while sends are under way. -/
theorem step_landed' (i : Fin 8) (n : ℕ) {src : Memref sig .tc sp s t} {dst : Memref sig .tc sp' s t} {sem : DmaSem sig}
    (hsm : sem = locIx i) (hN : dst.view.dmaCredit = locN i) {hsrc : src.view.WordExact} {hdst : dst.view.WordExact}
    {α : Type} {Q : α → sProp 𝕄} {k : PUnit → Prog (TpuEff nD τ sig (Elt F) Λ₀ .tc) α} :
    env m K ⊢ iprop(Snd c n -∗ Fly c i -∗ (Snd c n -∗ Win m c i -∗ WP c (k ⟨⟩) Q) -∗ WP c (.op (.waitDma2 sem src dst hsrc hdst) k) Q) := by
  unfold Snd
  iintro #He ⟨HO, HS⟩ HF Hk
  iapply (step_landed m K c i n hsm hN) $$ He HO HF
  iintro HO HW
  iapply Hk $$ [HO HS] HW
  isplitl [HO] <;> iassumption

/-- A load from where a local copy has landed. -/
theorem step_load (i : Fin 8) {mr : Memref sig .tc .vmem s t} {r : LoadRect s} {hl : mr.view.LoadsAt r}
    {g : Buf (Elt F) (mr.view.loc (c : Thread nD τ))} {R : sProp 𝕄} {v : r.shape.Idx → Elt F t}
    (hp : locPay m c i = iprop((mr.view.loc (c : Thread nD τ) ↦{fullShare} g) ∗ R)) (hv : mr.view.readAt (Elt F) r g = v)
    {α : Type} {Q : α → sProp 𝕄} {k : _ → Prog (TpuEff nD τ sig (Elt F) Λ₀ .tc) α} :
    Win m c i ⊢ iprop((Win m c i -∗ WP c (k v) Q) -∗ WP c (.op (.load mr r hl) k) Q) := by
  subst hv
  unfold Win
  rw [hp]
  iintro ⟨⟨HP, HR⟩, HZ⟩ Hk
  iapply (wp_load 𝒱₀ (c : Thread nD τ) none Set.univ (m := mr) (S := Finset.univ) (f := g) (Finset.subset_univ _)) $$ HP
  iintro HP
  iapply Hk
  isplitl [HP HR]
  · isplitl [HP] <;> iassumption
  iexact HZ
end Copy

/-! ## The stage buffer -/

/-- Sixteen rows lie inside the stage. -/
abbrev gInb (off : Fin 2 → ℕ) : Prop := ∀ a, off a + S16x512.size a ≤ S64x512.size a

/-- The first `n` chunks of the last layer's own parts written. -/
def Stg (c : Dev nD) (n : ℕ) : sProp 𝕄 :=
  iprop(∃ f : Buf (Elt F) (sgLoc c), ⌜∀ i : S64x512.Idx, (i 0).val < 16 * n → f i = sgV m c i⌝ ∗ (sgLoc c ↦{fullShare} f))

/-- A load from the stage changes nothing. -/
theorem step_stgload (n : ℕ) {r : LoadRect S64x512} {hl : sgM.view.LoadsAt r}
    {α : Type} {Q : α → sProp 𝕄} {k : _ → Prog (TpuEff nD τ sig (Elt F) Λ₀ .tc) α} :
    Stg m c n ⊢ iprop((∀ v, Stg m c n -∗ WP c (k v) Q) -∗ WP c (.op (.load sgM r hl) k) Q) := by
  unfold Stg
  iintro ⟨%f, %hf, HP⟩ Hk
  iapply (wp_load 𝒱₀ (c : Thread nD τ) none Set.univ (m := sgM) (S := Finset.univ) (f := f) (Finset.subset_univ _)) $$ HP
  iintro HP
  iapply Hk
  iexists f
  isplitr; · ipureintro; exact hf
  iexact HP

/-- Where an element of chunk `n` is in the stage. -/
theorem chunk_emb {off : Fin 2 → ℕ} {n : ℕ} (hoff : off = ![16 * n, 0]) (h : gInb off) (x : S16x512.Idx) :
    ((Rect.unit (s := S64x512) off S16x512.size h).emb x 0).val = 16 * n + (x 0).val ∧ row2 ((Rect.unit (s := S64x512) off S16x512.size h).emb x) = x := by
  subst hoff
  have key : ∀ a, ((Rect.unit (s := S64x512) ![16 * n, 0] S16x512.size h).emb x a).val = (![16 * n, 0] : Fin 2 → ℕ) a + (x a).val := fun a => by
    rw [Rect.emb_apply]
    show _ + 1 * (x a).val = _
    rw [Nat.one_mul]
    rfl
  have hx : (x 0).val < 16 := (x 0).isLt
  refine ⟨key 0, ?_⟩
  funext a
  apply Fin.ext
  fin_cases a
  · show ((Rect.unit (s := S64x512) ![16 * n, 0] S16x512.size h).emb x 0).val % 16 = (x 0).val
    rw [key 0]
    show (16 * n + (x 0).val) % 16 = _
    omega
  · exact (key 1).trans (Nat.zero_add _)

/-- What the stage holds there. -/
theorem chunk_val {off : Fin 2 → ℕ} {n : ℕ} (hoff : off = ![16 * n, 0]) (h : gInb off) (x : S16x512.Idx) :
    sgV m c ((Rect.unit (s := S64x512) off S16x512.size h).emb x) = shapeCast S16x512 (part m 2 n c) shapeCasts_S16x512_S16x512 x := by
  obtain ⟨h0, h1⟩ := chunk_emb hoff h x
  have hx : (x 0).val < 16 := (x 0).isLt
  unfold sgV
  rw [h0, h1, show (16 * n + (x 0).val) / 16 = n by omega]

/-- An index lies in chunk `n` just when its row does. -/
theorem chunk_mem {off : Fin 2 → ℕ} {n : ℕ} (hoff : off = ![16 * n, 0]) (h : gInb off) (i : S64x512.Idx)
    (hi : i ∉ (Rect.unit (s := S64x512) off S16x512.size h).set) (hl : (i 0).val < 16 * (n + 1)) : (i 0).val < 16 * n := by
  subst hoff
  by_contra hc
  refine hi (Rect.mem_set_unit.mpr fun a => ?_)
  fin_cases a
  · show 16 * n ≤ (i 0).val ∧ (i 0).val < 16 * n + 16
    omega
  · show 0 ≤ (i 1).val ∧ (i 1).val < 0 + 512
    exact ⟨Nat.zero_le _, by rw [Nat.zero_add]; exact (i 1).isLt⟩

/-- Chunk `n` of the stage is written. -/
theorem step_stgstore (n : ℕ) {off : Fin 2 → ℕ} (h : gInb off) (hoff : off = ![16 * n, 0]) {w : Vec F S16x512 .f32}
    (hw : w = shapeCast S16x512 (part m 2 n c) shapeCasts_S16x512_S16x512)
    {hx : (sgM.access (Rect.unit (s := S64x512) off S16x512.size h)).Stores Finset.univ} {hm}
    {α : Type} {Q : α → sProp 𝕄} {k : PUnit → Prog (TpuEff nD τ sig (Elt F) Λ₀ .tc) α} :
    Stg m c n ⊢ iprop((Stg m c (n + 1) -∗ WP c (k ⟨⟩) Q)
          -∗ WP c (.op (.store sgM (Rect.unit (s := S64x512) off S16x512.size h) w Finset.univ hx hm) k) Q) := by
  subst hw
  unfold Stg
  iintro ⟨%f, %hf, HP⟩ Hk
  iapply (wp_store 𝒱₀ (c : Thread nD τ) none Set.univ (m := sgM) (r := Rect.unit (s := S64x512) off S16x512.size h) (S := Finset.univ) (f := f)
    (Finset.subset_univ _)) $$ HP
  iintro HP
  iapply Hk
  iexists _
  isplitr
  swap; · iexact HP
  ipureintro
  intro i hi
  by_cases hin : i ∈ (sgM.access (Rect.unit (s := S64x512) off S16x512.size h)).set
  · obtain ⟨x, -, rfl⟩ := Finset.mem_map.mp hin
    refine (View.write_emb_of_mem (v := sgM.access (Rect.unit (s := S64x512) off S16x512.size h)) _ _ (Finset.mem_univ x)).trans ?_
    exact (chunk_val m c hoff h x).symm
  · refine (View.write_of_not_mem (v := sgM.access (Rect.unit (s := S64x512) off S16x512.size h)) _ _ _ (i := i) hin).trans
      (hf i (chunk_mem hoff h i (fun hm => hin (by rw [show (sgM.access (Rect.unit (s := S64x512) off S16x512.size h)).set
        = (Rect.unit (s := S64x512) off S16x512.size h).set from View.set_slice_whole cc0_scratch2 _]; exact hm)) hi))

/-- The load of the device's own chunk. -/
theorem step_stgrow {off : Fin 2 → ℕ} (h : gInb off) (hoff : off = ![16 * c.val, 0])
    {hl : sgM.view.LoadsAt (Rect.unit (s := S64x512) off S16x512.size h).toLoadRect}
    {α : Type} {Q : α → sProp 𝕄} {k : Vec F S16x512 .f32 → Prog (TpuEff nD τ sig (Elt F) Λ₀ .tc) α} :
    Stg m c 4 ⊢ iprop((Stg m c 4 -∗ WP c (k (shapeCast S16x512 (part m 2 c.val c) shapeCasts_S16x512_S16x512)) Q)
          -∗ WP c (.op (.load sgM (Rect.unit (s := S64x512) off S16x512.size h).toLoadRect hl) k) Q) := by
  unfold Stg
  iintro ⟨%f, %hf, HP⟩ Hk
  iapply (wp_load 𝒱₀ (c : Thread nD τ) none Set.univ (m := sgM) (S := Finset.univ) (f := f) (Finset.subset_univ _)) $$ HP
  rw [show sgM.view.readAt (Elt F) (Rect.unit (s := S64x512) off S16x512.size h).toLoadRect f
    = shapeCast S16x512 (part m 2 c.val c) shapeCasts_S16x512_S16x512 from funext fun x =>
      (hf _ (((Rect.unit (s := S64x512) off S16x512.size h).emb x 0).isLt)).trans (chunk_val m c hoff h x)]
  iintro HP
  iapply Hk
  iexists f
  isplitr; · ipureintro; exact hf
  iexact HP

end Steps

end Cert.Exchange

end
-- ==== Proof.Part1.lean ====
/-
The body of the exchange, part by part: the first layer.
-/
module

public import proofs.«01_k».proof.Proof.Steps2

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A part of the body at the launch's buffers and semaphores. -/
abbrev onArgs {β : Sort _} (f : (arg0 : Memref sig .tc .hbm S64x512 .f32) → (harg0 : arg0.IsWhole) → (arg1 : Memref sig .tc .hbm S512x1024 .f32) → (harg1 : arg1.IsWhole) → (arg2 : Memref sig .tc .hbm S1024x512 .f32) → (harg2 : arg2.IsWhole) → (arg3 : Memref sig .tc .hbm S512x1024 .f32) → (harg3 : arg3.IsWhole) → (arg4 : Memref sig .tc .hbm S1024x512 .f32) → (harg4 : arg4.IsWhole) → (arg5 : Memref sig .tc .hbm S512x1024 .f32) → (harg5 : arg5.IsWhole) → (arg6 : Memref sig .tc .hbm S1024x512 .f32) → (harg6 : arg6.IsWhole) → (arg7 : Memref sig .tc .hbm S16x512 .f32) → (harg7 : arg7.IsWhole) → (arg8 : Memref sig .tc .vmem S12x16x512 .bf16) → (harg8 : arg8.IsWhole) → (arg9 : Memref sig .tc .vmem S36x16x512 .bf16) → (harg9 : arg9.IsWhole) → (arg10 : Memref sig .tc .vmem S64x512 .f32) → (harg10 : arg10.IsWhole) → (arg11 : Memref sig .tc .vmem S64x512 .f32) → (harg11 : arg11.IsWhole) → (arg12 : Memref sig .tc .vmem S512x1024 .f32) → (harg12 : arg12.IsWhole) → (arg13 : Memref sig .tc .vmem S1024x512 .f32) → (harg13 : arg13.IsWhole) → (arg14 : Memref sig .tc .vmem S512x1024 .f32) → (harg14 : arg14.IsWhole) → (arg15 : Memref sig .tc .vmem S1024x512 .f32) → (harg15 : arg15.IsWhole) → (arg16 : Memref sig .tc .vmem S512x1024 .f32) → (harg16 : arg16.IsWhole) → (arg17 : Memref sig .tc .vmem S1024x512 .f32) → (harg17 : arg17.IsWhole) → (arg18 : Memref sig .tc .vmem S16x512 .f32) → (harg18 : arg18.IsWhole) → (arg19 : DmaSems sig S_) → (arg20 : DmaSems sig S_) → (arg21 : DmaSems sig S6) → (arg22 : DmaSems sig S36) → (arg23 : DmaSems sig S36) → β) : β :=
  f (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15

/-- The offsets of a whole load. -/
theorem off_zero : (![0, 0] : Fin 2 → ℕ) = fun _ => 0 := by funext a; fin_cases a <;> rfl

/-- A finished program, and one program after another. -/
theorem wp_done (c : Dev nD) {α : Type} {a b : α} {Q : α → sProp 𝕄} (h : a = b) : Q b ⊢ WP c (.ret a) Q := by
  subst h
  unfold WP
  rw [wp_ret]
  iintro H
  imodintro; iexact H
/-- One program after another. -/
theorem wp_then (c : Dev nD) {α β : Type} {p : Prog (TpuEff nD τ sig (Elt F) Λ₀ .tc) α}
    {k : α → Prog (TpuEff nD τ sig (Elt F) Λ₀ .tc) β} {Q : β → sProp 𝕄} :
    WP c p (fun a => WP c (k a) Q) ⊢ WP c (p >>= k) Q := by
  unfold WP
  rw [wp_bind]

section Parts
variable (K : Names) (c : Dev nD)

/-- An argument buffer at its launch contents, and a buffer at any. -/
abbrev argPts (r : Ref sig .tc) : sProp 𝕄 := (c : Thread nD τ).loc r ↦{fullShare} m ((c : Thread nD τ).loc r)
/-- A buffer holding anything. -/
abbrev anyPts (r : Ref sig .tc) : sProp 𝕄 := iprop(∃ f : Buf (Elt F) ((c : Thread nD τ).loc r), (c : Thread nD τ).loc r ↦{fullShare} f)

/-- The three signals; the copies of the input and of the first layer's weights start; the four chunks are read, and the first matrix. -/
theorem part1 {Q : _ → sProp 𝕄} : env m K ⊢ iprop(Sig c 0 -∗ Cold c 0 -∗ Cold c 2 -∗ Cold c 3
    -∗ argPts m c main_arg0 -∗ anyPts c cc0_scratch3 -∗ argPts m c main_arg1 -∗ anyPts c cc0_scratch4 -∗ argPts m c main_arg4 -∗ anyPts c cc0_scratch5
    -∗ (∀ v2 v3 v4 v5, oweW c 0 -∗ Win m c 0 -∗ Win m c 2 -∗ Fly c 3
        -∗ Q ⟨c, v2, v3, v4, v5, SemArray.scalar (sig.barrier 0 rfl), xrow m 0 c, xrow m 1 c, xrow m 2 c, xrow m 3 c, wIn m 0 c⟩)
    -∗ WP c (onArgs (k0_part1 (F := F))) Q) := by
  rw [onArgs, k0_part1_eq_skeleton]
  unfold k0_part1_skel
  simp only [semSignalWord, Prog.lift, Prog.bind_op, Prog.bind_ret, Prog.pure_eq_ret, wp_deviceId]
  iintro #He HG HT0 HT2 HT3 Ha0 Hs3 Ha1 Hs4 Ha4 Hs5 Hk
  iapply (step_signal m K c 0 (by decide) _ ((show ∀ c, (⟨k0_dev1 c, k0_dev1_lt c⟩ : Dev nD) = peer 0 c by decide) c)) $$ He HG
  iintro HG
  iapply (step_signal m K c 1 (by decide) _ ((show ∀ c, (⟨k0_dev2 c, k0_dev2_lt c⟩ : Dev nD) = peer 1 c by decide) c)) $$ He HG
  iintro HG
  iapply (step_signal m K c 2 (by decide) _ ((show ∀ c, (⟨k0_dev3 c, k0_dev3_lt c⟩ : Dev nD) = peer 2 c by decide) c)) $$ He HG
  iintro HG
  ihave HO := (sig_end c) $$ HG
  iapply (step_copy m K c 0 (src := Memref.whole main_arg0) (dst := Memref.whole cc0_scratch3) xSem_eq rfl (View.set_whole _) (View.set_whole _) (fun fd => View.write_whole_univ _ fd _) rfl) $$ He HT0 Ha0 Hs3
  iintro HF0
  iapply (step_copy m K c 2 (src := Memref.whole main_arg1) (dst := Memref.whole cc0_scratch4) (wSem_eq _ 0 rfl) rfl (View.set_whole _) (View.set_whole _) (fun fd => View.write_whole_univ _ fd _) rfl) $$ He HT2 Ha1 Hs4
  iintro HF2
  iapply (step_copy m K c 3 (src := Memref.whole main_arg4) (dst := Memref.whole cc0_scratch5) (wSem_eq _ 1 rfl) rfl (View.set_whole _) (View.set_whole _) (fun fd => View.write_whole_univ _ fd _) rfl) $$ He HT3 Ha4 Hs5
  iintro HF3
  iapply (step_landed m K c 0 0 (src := Memref.whole main_arg0) (dst := Memref.whole cc0_scratch3) xSem_eq rfl) $$ He HO HF0
  iintro HO HW0
  iapply (step_load m c 0 (mr := Memref.whole cc0_scratch3) (v := xrow m 0 c) rfl rfl) $$ HW0
  iintro HW0
  iapply (step_load m c 0 (mr := Memref.whole cc0_scratch3) (v := xrow m 1 c) rfl rfl) $$ HW0
  iintro HW0
  iapply (step_load m c 0 (mr := Memref.whole cc0_scratch3) (v := xrow m 2 c) rfl rfl) $$ HW0
  iintro HW0
  iapply (step_load m c 0 (mr := Memref.whole cc0_scratch3) (v := xrow m 3 c) rfl rfl) $$ HW0
  iintro HW0
  iapply (step_landed m K c 2 0 (src := Memref.whole main_arg1) (dst := Memref.whole cc0_scratch4) (wSem_eq _ 0 rfl) rfl) $$ He HO HF2
  iintro HO HW2
  iapply (step_load m c 2 (mr := Memref.whole cc0_scratch4) (v := wIn m 0 c) rfl (Memref.readAt_unit_zero (Elt F) cc0_scratch4 off_zero _ _)) $$ HW2
  iintro HW2
  iapply (wp_done c rfl)
  iapply Hk $$ HO HW0 HW2 HF3

end Parts

end Cert.Exchange

end
-- ==== Proof.Part2.lean ====
/-
The body of the exchange, part by part: the first layer and the start of the second.
-/
module

public import proofs.«01_k».proof.Proof.Part1

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Parts
variable (K : Names) (c : Dev nD)

/-- Chunk 0 of the first layer; the wait at the barrier; its part goes to the send buffer and transfer 0 starts. -/
theorem part2 {v3 v4} {Q : _ → sProp 𝕄} : env m K ⊢ iprop(oweW c 0 -∗ Fly c 3 -∗ (cred (tallyAt (barCell c) () 3) ∗ atPos ER (barCell c) 0 ∅ 0) -∗ bigSep Finset.univ (sendToks (F := F) c) -∗ Sb c 0
    -∗ (Snd c 1 -∗ semVal (barCell c) 0 -∗ Win m c 3 -∗ Sb c 1 -∗ srcPts m c 1 -∗ srcPts m c 2 -∗ Q (part m 0 0 c))
    -∗ WP c (onArgs (k0_part2 (F := F)) c v3 v4 (SemArray.scalar (sig.barrier 0 rfl)) (xrow m 0 c) (wIn m 0 c)) Q) := by
  rw [onArgs, k0_part2_eq_skeleton]
  unfold k0_part2_skel
  simp only [semWaitWord, Prog.lift, Prog.bind_op, Prog.bind_ret, Prog.pure_eq_ret]
  iintro #He HO HF3 HBar HT HB Hk
  iapply (step_landed m K c 3 0 (src := Memref.whole main_arg4) (dst := Memref.whole cc0_scratch5) (wSem_eq _ 1 rfl) rfl) $$ He HO HF3
  iintro HO HW3
  iapply (step_load m c 3 (mr := Memref.whole cc0_scratch5) (v := wOut m 0 c) rfl (Memref.readAt_unit_zero (Elt F) cc0_scratch5 off_zero _ _)) $$ HW3
  iintro HW3
  iapply (step_bar m K c) $$ He HO HBar HT
  iintro HS HZ
  iapply (step_sbload c 0 (by decide) _ rfl) $$ HB
  iintro %_ HB
  iapply (step_early m c 0 (by decide) _ rfl ?_) $$ HB
  · rfl
  iintro HB Hq0 Hq1 Hq2
  iapply (step_send' m K c 0 (by decide) (by decide) _ ((show ∀ c, (⟨k0_dev4 c, k0_dev4_lt c⟩ : Dev nD) = tgt c 0 by decide) c) rfl rfl rfl rfl) $$ He HS Hq0
  iintro HS
  iapply (wp_done c (b := (part m 0 0 c)) ?_)
  · rfl
  iapply Hk $$ HS HZ HW3 HB Hq1 Hq2

/-- Transfers 1 and 2; the second layer's weights start to come; chunk 1 of the first layer. -/
theorem part3 {v5 : BitVec 32} {Q : _ → sProp 𝕄} : env m K ⊢ iprop(Snd c 1 -∗ srcPts m c 1 -∗ srcPts m c 2 -∗ Cold c 4 -∗ argPts m c main_arg2 -∗ anyPts c cc0_scratch6 -∗ Cold c 5 -∗ argPts m c main_arg5 -∗ anyPts c cc0_scratch7 -∗ Win m c 2 -∗ Win m c 3 -∗ Sb c 1
    -∗ (Snd c 3 -∗ Fly c 4 -∗ Fly c 5 -∗ Win m c 2 -∗ Win m c 3 -∗ Sb c 2 -∗ srcPts m c 3 -∗ srcPts m c 4 -∗ srcPts m c 5 -∗ Q (part m 0 1 c))
    -∗ WP c (onArgs (k0_part3 (F := F)) c v5 (xrow m 1 c)) Q) := by
  rw [onArgs, k0_part3_eq_skeleton]
  unfold k0_part3_skel
  simp only [semWaitWord, Prog.lift, Prog.bind_op, Prog.bind_ret, Prog.pure_eq_ret]
  iintro #He HS Hq1 Hq2 HT4 Ha4 Hs4 HT5 Ha5 Hs5 HW2 HW3 HB Hk
  iapply (step_send' m K c 1 (by decide) (by decide) _ ((show ∀ c, (⟨k0_dev5 c, k0_dev5_lt c⟩ : Dev nD) = tgt c 1 by decide) c) rfl rfl rfl rfl) $$ He HS Hq1
  iintro HS
  iapply (step_send' m K c 2 (by decide) (by decide) _ ((show ∀ c, (⟨k0_dev6 c, k0_dev6_lt c⟩ : Dev nD) = tgt c 2 by decide) c) rfl rfl rfl rfl) $$ He HS Hq2
  iintro HS
  iapply (step_copy m K c 4 (src := Memref.whole main_arg2) (dst := Memref.whole cc0_scratch6) (wSem_eq _ 2 rfl) rfl (View.set_whole _) (View.set_whole _)
    (fun fd => View.write_whole_univ _ fd _) rfl) $$ He HT4 Ha4 Hs4
  iintro HF4
  iapply (step_copy m K c 5 (src := Memref.whole main_arg5) (dst := Memref.whole cc0_scratch7) (wSem_eq _ 3 rfl) rfl (View.set_whole _) (View.set_whole _)
    (fun fd => View.write_whole_univ _ fd _) rfl) $$ He HT5 Ha5 Hs5
  iintro HF5
  iapply (step_load m c 2 (mr := Memref.whole cc0_scratch4) (v := wIn m 0 c) rfl (Memref.readAt_unit_zero (Elt F) cc0_scratch4 off_zero _ _)) $$ HW2
  iintro HW2
  iapply (step_load m c 3 (mr := Memref.whole cc0_scratch5) (v := wOut m 0 c) rfl (Memref.readAt_unit_zero (Elt F) cc0_scratch5 off_zero _ _)) $$ HW3
  iintro HW3
  iapply (step_sbload c 1 (by decide) _ rfl) $$ HB
  iintro %_ HB
  iapply (step_early m c 1 (by decide) _ rfl ?_) $$ HB
  · rfl
  iintro HB Hq3 Hq4 Hq5
  iapply (wp_done c (b := (part m 0 1 c)) ?_)
  · rfl
  iapply Hk $$ HS HF4 HF5 HW2 HW3 HB Hq3 Hq4 Hq5

/-- Transfers 3 to 5. -/
theorem part4 {v3 v4 v5 : BitVec 32} {Q : _ → sProp 𝕄} : env m K ⊢ iprop(Snd c 3 -∗ srcPts m c 3 -∗ srcPts m c 4 -∗ srcPts m c 5
    -∗ (Snd c 6 -∗ Q ⟨⟩)
    -∗ WP c (onArgs (k0_part4 (F := F)) c v3 v4 v5) Q) := by
  rw [onArgs, k0_part4_eq_skeleton]
  unfold k0_part4_skel
  simp only [semWaitWord, Prog.lift, Prog.bind_op, Prog.bind_ret, Prog.pure_eq_ret]
  iintro #He HS Hq3 Hq4 Hq5 Hk
  iapply (step_send' m K c 3 (by decide) (by decide) _ ((show ∀ c, (⟨k0_dev7 c, k0_dev7_lt c⟩ : Dev nD) = tgt c 3 by decide) c) rfl rfl rfl rfl) $$ He HS Hq3
  iintro HS
  iapply (step_send' m K c 4 (by decide) (by decide) _ ((show ∀ c, (⟨k0_dev8 c, k0_dev8_lt c⟩ : Dev nD) = tgt c 4 by decide) c) rfl rfl rfl rfl) $$ He HS Hq4
  iintro HS
  iapply (step_send' m K c 5 (by decide) (by decide) _ ((show ∀ c, (⟨k0_dev9 c, k0_dev9_lt c⟩ : Dev nD) = tgt c 5 by decide) c) rfl rfl rfl rfl) $$ He HS Hq5
  iintro HS
  iapply (wp_done c rfl)
  iapply Hk $$ HS

/-- Chunk 2 of the first layer and transfer 6. -/
theorem part5 {v3 v4 : BitVec 32} {Q : _ → sProp 𝕄} : env m K ⊢ iprop(Snd c 6 -∗ Win m c 2 -∗ Win m c 3 -∗ Sb c 2
    -∗ (Snd c 7 -∗ Win m c 2 -∗ Win m c 3 -∗ Sb c 3 -∗ srcPts m c 7 -∗ srcPts m c 8 -∗ Q (part m 0 2 c))
    -∗ WP c (onArgs (k0_part5 (F := F)) c v3 v4 (xrow m 2 c)) Q) := by
  rw [onArgs, k0_part5_eq_skeleton]
  unfold k0_part5_skel
  simp only [semWaitWord, Prog.lift, Prog.bind_op, Prog.bind_ret, Prog.pure_eq_ret]
  iintro #He HS HW2 HW3 HB Hk
  iapply (step_load m c 2 (mr := Memref.whole cc0_scratch4) (v := wIn m 0 c) rfl (Memref.readAt_unit_zero (Elt F) cc0_scratch4 off_zero _ _)) $$ HW2
  iintro HW2
  iapply (step_load m c 3 (mr := Memref.whole cc0_scratch5) (v := wOut m 0 c) rfl (Memref.readAt_unit_zero (Elt F) cc0_scratch5 off_zero _ _)) $$ HW3
  iintro HW3
  iapply (step_sbload c 2 (by decide) _ rfl) $$ HB
  iintro %_ HB
  iapply (step_early m c 2 (by decide) _ rfl ?_) $$ HB
  · rfl
  iintro HB Hq6 Hq7 Hq8
  iapply (step_send' m K c 6 (by decide) (by decide) _ ((show ∀ c, (⟨k0_dev10 c, k0_dev10_lt c⟩ : Dev nD) = tgt c 6 by decide) c) rfl rfl rfl rfl) $$ He HS Hq6
  iintro HS
  iapply (wp_done c (b := (part m 0 2 c)) ?_)
  · rfl
  iapply Hk $$ HS HW2 HW3 HB Hq7 Hq8

/-- Transfers 7 and 8; chunk 3 of the first layer. -/
theorem part6 {v3 v5 : BitVec 32} {Q : _ → sProp 𝕄} : env m K ⊢ iprop(Snd c 7 -∗ srcPts m c 7 -∗ srcPts m c 8 -∗ Win m c 2 -∗ Win m c 3 -∗ Sb c 3
    -∗ (Snd c 9 -∗ Win m c 2 -∗ Win m c 3 -∗ Sb c 4 -∗ srcPts m c 9 -∗ srcPts m c 10 -∗ srcPts m c 11 -∗ Q (part m 0 3 c))
    -∗ WP c (onArgs (k0_part6 (F := F)) c v3 v5 (xrow m 3 c)) Q) := by
  rw [onArgs, k0_part6_eq_skeleton]
  unfold k0_part6_skel
  simp only [semWaitWord, Prog.lift, Prog.bind_op, Prog.bind_ret, Prog.pure_eq_ret]
  iintro #He HS Hq7 Hq8 HW2 HW3 HB Hk
  iapply (step_send' m K c 7 (by decide) (by decide) _ ((show ∀ c, (⟨k0_dev11 c, k0_dev11_lt c⟩ : Dev nD) = tgt c 7 by decide) c) rfl rfl rfl rfl) $$ He HS Hq7
  iintro HS
  iapply (step_send' m K c 8 (by decide) (by decide) _ ((show ∀ c, (⟨k0_dev12 c, k0_dev12_lt c⟩ : Dev nD) = tgt c 8 by decide) c) rfl rfl rfl rfl) $$ He HS Hq8
  iintro HS
  iapply (step_load m c 2 (mr := Memref.whole cc0_scratch4) (v := wIn m 0 c) rfl (Memref.readAt_unit_zero (Elt F) cc0_scratch4 off_zero _ _)) $$ HW2
  iintro HW2
  iapply (step_load m c 3 (mr := Memref.whole cc0_scratch5) (v := wOut m 0 c) rfl (Memref.readAt_unit_zero (Elt F) cc0_scratch5 off_zero _ _)) $$ HW3
  iintro HW3
  iapply (step_sbload c 3 (by decide) _ rfl) $$ HB
  iintro %_ HB
  iapply (step_early m c 3 (by decide) _ rfl ?_) $$ HB
  · rfl
  iintro HB Hq9 Hq10 Hq11
  iapply (wp_done c (b := (part m 0 3 c)) ?_)
  · rfl
  iapply Hk $$ HS HW2 HW3 HB Hq9 Hq10 Hq11

/-- Transfers 9 to 11. -/
theorem part7 {v3 v4 v5 : BitVec 32} {Q : _ → sProp 𝕄} : env m K ⊢ iprop(Snd c 9 -∗ srcPts m c 9 -∗ srcPts m c 10 -∗ srcPts m c 11
    -∗ (Snd c 12 -∗ Q ⟨⟩)
    -∗ WP c (onArgs (k0_part7 (F := F)) c v3 v4 v5) Q) := by
  rw [onArgs, k0_part7_eq_skeleton]
  unfold k0_part7_skel
  simp only [semWaitWord, Prog.lift, Prog.bind_op, Prog.bind_ret, Prog.pure_eq_ret]
  iintro #He HS Hq9 Hq10 Hq11 Hk
  iapply (step_send' m K c 9 (by decide) (by decide) _ ((show ∀ c, (⟨k0_dev13 c, k0_dev13_lt c⟩ : Dev nD) = tgt c 9 by decide) c) rfl rfl rfl rfl) $$ He HS Hq9
  iintro HS
  iapply (step_send' m K c 10 (by decide) (by decide) _ ((show ∀ c, (⟨k0_dev14 c, k0_dev14_lt c⟩ : Dev nD) = tgt c 10 by decide) c) rfl rfl rfl rfl) $$ He HS Hq10
  iintro HS
  iapply (step_send' m K c 11 (by decide) (by decide) _ ((show ∀ c, (⟨k0_dev15 c, k0_dev15_lt c⟩ : Dev nD) = tgt c 11 by decide) c) rfl rfl rfl rfl) $$ He HS Hq11
  iintro HS
  iapply (wp_done c rfl)
  iapply Hk $$ HS

/-- Arrivals 0 to 2: chunk 0 of the first layer is summed. -/
theorem part8 {v4 v5 : BitVec 32} {Q : _ → sProp 𝕄} : env m K ⊢ iprop(Snd c 12 -∗ Rcv m c 0
    -∗ (Snd c 12 -∗ Rcv m c 3 -∗ Q ⟨k0_pay9 (wire (part m 0 0 (peer 0 c))) (wire (part m 0 0 (peer 1 c))), (wire (part m 0 0 (peer 2 c)))⟩)
    -∗ WP c (onArgs (k0_part8 (F := F)) v4 v5) Q) := by
  rw [onArgs, k0_part8_eq_skeleton]
  unfold k0_part8_skel
  simp only [semWaitWord, Prog.lift, Prog.bind_op, Prog.bind_ret, Prog.pure_eq_ret]
  iintro #He HS HR Hk
  iapply (step_recv m K c 0 (by decide) 12 (by decide) _ _ _ rfl) $$ He HS HR
  iintro HS HR
  iapply (step_recv m K c 1 (by decide) 12 (by decide) _ _ _ rfl) $$ He HS HR
  iintro HS HR
  iapply (step_recv m K c 2 (by decide) 12 (by decide) _ _ _ rfl) $$ He HS HR
  iintro HS HR
  iapply (step_cm' m c 0 (by decide) (by decide) 3 (by decide) rfl) $$ HR
  iintro HR
  iapply (step_cm' m c 1 (by decide) (by decide) 3 (by decide) rfl) $$ HR
  iintro HR
  iapply (step_cm' m c 2 (by decide) (by decide) 3 (by decide) rfl) $$ HR
  iintro HR
  iapply (wp_done c (b := ⟨k0_pay9 (wire (part m 0 0 (peer 0 c))) (wire (part m 0 0 (peer 1 c))), (wire (part m 0 0 (peer 2 c)))⟩) ?_)
  · rfl
  iapply Hk $$ HS HR

/-- The second layer's weights are there; its chunk 0, and transfer 12. -/
theorem part9 {v3 v4 : BitVec 32} {Q : _ → sProp 𝕄} : env m K ⊢ iprop(Snd c 12 -∗ Fly c 4 -∗ Fly c 5 -∗ Sb c 4
    -∗ (Snd c 13 -∗ Win m c 4 -∗ Win m c 5 -∗ Sb c 5 -∗ srcPts m c 13 -∗ srcPts m c 14 -∗ Q ⟨part m 1 0 c, Scalar.muli v4 1#32⟩)
    -∗ WP c (onArgs (k0_part9 (F := F)) c v3 v4 (part m 0 0 c) (k0_pay9 (wire (part m 0 0 (peer 0 c))) (wire (part m 0 0 (peer 1 c)))) (wire (part m 0 0 (peer 2 c)))) Q) := by
  rw [onArgs, k0_part9_eq_skeleton]
  unfold k0_part9_skel
  simp only [semWaitWord, Prog.lift, Prog.bind_op, Prog.bind_ret, Prog.pure_eq_ret]
  iintro #He HS HF4 HF5 HB Hk
  iapply (step_landed' m K c 4 12 (src := Memref.whole main_arg2) (dst := Memref.whole cc0_scratch6) (wSem_eq _ 2 rfl) rfl) $$ He HS HF4
  iintro HS HW4
  iapply (step_load m c 4 (mr := Memref.whole cc0_scratch6) (v := wIn m 1 c) rfl (Memref.readAt_unit_zero (Elt F) cc0_scratch6 off_zero _ _)) $$ HW4
  iintro HW4
  iapply (step_landed' m K c 5 12 (src := Memref.whole main_arg5) (dst := Memref.whole cc0_scratch7) (wSem_eq _ 3 rfl) rfl) $$ He HS HF5
  iintro HS HW5
  iapply (step_load m c 5 (mr := Memref.whole cc0_scratch7) (v := wOut m 1 c) rfl (Memref.readAt_unit_zero (Elt F) cc0_scratch7 off_zero _ _)) $$ HW5
  iintro HW5
  iapply (step_sbload c 4 (by decide) _ rfl) $$ HB
  iintro %_ HB
  iapply (step_early m c 4 (by decide) _ rfl ?_) $$ HB
  · rfl
  iintro HB Hq12 Hq13 Hq14
  iapply (step_send' m K c 12 (by decide) (by decide) _ ((show ∀ c, (⟨k0_dev16 c, k0_dev16_lt c⟩ : Dev nD) = tgt c 12 by decide) c) rfl rfl rfl rfl) $$ He HS Hq12
  iintro HS
  iapply (wp_done c (b := ⟨part m 1 0 c, Scalar.muli v4 1#32⟩) ?_)
  · rfl
  iapply Hk $$ HS HW4 HW5 HB Hq13 Hq14

/-- Transfers 13 and 14; the last layer's weights start to come. -/
theorem part10 {v3 v4 v5 : BitVec 32} {Q : _ → sProp 𝕄} : env m K ⊢ iprop(Snd c 13 -∗ srcPts m c 13 -∗ srcPts m c 14 -∗ Cold c 6 -∗ argPts m c main_arg3 -∗ anyPts c cc0_scratch8 -∗ Cold c 7 -∗ argPts m c main_arg6 -∗ anyPts c cc0_scratch9
    -∗ (Snd c 15 -∗ Fly c 6 -∗ Fly c 7 -∗ Q ⟨⟩)
    -∗ WP c (onArgs (k0_part10 (F := F)) c v3 v5 v4) Q) := by
  rw [onArgs, k0_part10_eq_skeleton]
  unfold k0_part10_skel
  simp only [semWaitWord, Prog.lift, Prog.bind_op, Prog.bind_ret, Prog.pure_eq_ret]
  iintro #He HS Hq13 Hq14 HT6 Ha6 Hs6 HT7 Ha7 Hs7 Hk
  iapply (step_send' m K c 13 (by decide) (by decide) _ ((show ∀ c, (⟨k0_dev17 c, k0_dev17_lt c⟩ : Dev nD) = tgt c 13 by decide) c) rfl rfl rfl rfl) $$ He HS Hq13
  iintro HS
  iapply (step_send' m K c 14 (by decide) (by decide) _ ((show ∀ c, (⟨k0_dev18 c, k0_dev18_lt c⟩ : Dev nD) = tgt c 14 by decide) c) rfl rfl rfl rfl) $$ He HS Hq14
  iintro HS
  iapply (step_copy m K c 6 (src := Memref.whole main_arg3) (dst := Memref.whole cc0_scratch8) (wSem_eq _ 4 rfl) rfl (View.set_whole _) (View.set_whole _)
    (fun fd => View.write_whole_univ _ fd _) rfl) $$ He HT6 Ha6 Hs6
  iintro HF6
  iapply (step_copy m K c 7 (src := Memref.whole main_arg6) (dst := Memref.whole cc0_scratch9) (wSem_eq _ 5 rfl) rfl (View.set_whole _) (View.set_whole _)
    (fun fd => View.write_whole_univ _ fd _) rfl) $$ He HT7 Ha7 Hs7
  iintro HF7
  iapply (wp_done c rfl)
  iapply Hk $$ HS HF6 HF7

end Parts

end Cert.Exchange

end
-- ==== Proof.Part3.lean ====
/-
The body of the exchange, part by part: the second layer.
-/
module

public import proofs.«01_k».proof.Proof.Part2

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Parts
variable (K : Names) (c : Dev nD)

/-- Arrivals 3 to 5: chunk 1 of the first layer is summed. -/
theorem part11 {v4 v5 : BitVec 32} {Q : _ → sProp 𝕄} : env m K ⊢ iprop(Snd c 15 -∗ Rcv m c 3
    -∗ (Snd c 15 -∗ Rcv m c 6 -∗ Q (k0_pay12 (part m 0 1 c) (wire (part m 0 1 (peer 0 c))) (wire (part m 0 1 (peer 1 c))) (wire (part m 0 1 (peer 2 c)))))
    -∗ WP c (onArgs (k0_part11 (F := F)) v4 v5 (part m 0 1 c)) Q) := by
  rw [onArgs, k0_part11_eq_skeleton]
  unfold k0_part11_skel
  simp only [semWaitWord, Prog.lift, Prog.bind_op, Prog.bind_ret, Prog.pure_eq_ret]
  iintro #He HS HR Hk
  iapply (step_recv m K c 3 (by decide) 15 (by decide) _ _ _ rfl) $$ He HS HR
  iintro HS HR
  iapply (step_recv m K c 4 (by decide) 15 (by decide) _ _ _ rfl) $$ He HS HR
  iintro HS HR
  iapply (step_recv m K c 5 (by decide) 15 (by decide) _ _ _ rfl) $$ He HS HR
  iintro HS HR
  iapply (step_cm' m c 3 (by decide) (by decide) 6 (by decide) rfl) $$ HR
  iintro HR
  iapply (step_cm' m c 4 (by decide) (by decide) 6 (by decide) rfl) $$ HR
  iintro HR
  iapply (step_cm' m c 5 (by decide) (by decide) 6 (by decide) rfl) $$ HR
  iintro HR
  iapply (wp_done c (b := (k0_pay12 (part m 0 1 c) (wire (part m 0 1 (peer 0 c))) (wire (part m 0 1 (peer 1 c))) (wire (part m 0 1 (peer 2 c))))) ?_)
  · rfl
  iapply Hk $$ HS HR

/-- Chunk 1 of the second layer and transfer 15. -/
theorem part12 {v3 v4 : BitVec 32} {Q : _ → sProp 𝕄} : env m K ⊢ iprop(Snd c 15 -∗ Win m c 4 -∗ Win m c 5 -∗ Sb c 5
    -∗ (Snd c 16 -∗ Win m c 4 -∗ Win m c 5 -∗ Sb c 6 -∗ srcPts m c 16 -∗ srcPts m c 17 -∗ Q (part m 1 1 c))
    -∗ WP c (onArgs (k0_part12 (F := F)) c v3 v4 (k0_pay12 (part m 0 1 c) (wire (part m 0 1 (peer 0 c))) (wire (part m 0 1 (peer 1 c))) (wire (part m 0 1 (peer 2 c))))) Q) := by
  rw [onArgs, k0_part12_eq_skeleton]
  unfold k0_part12_skel
  simp only [semWaitWord, Prog.lift, Prog.bind_op, Prog.bind_ret, Prog.pure_eq_ret]
  iintro #He HS HW4 HW5 HB Hk
  iapply (step_load m c 4 (mr := Memref.whole cc0_scratch6) (v := wIn m 1 c) rfl (Memref.readAt_unit_zero (Elt F) cc0_scratch6 off_zero _ _)) $$ HW4
  iintro HW4
  iapply (step_load m c 5 (mr := Memref.whole cc0_scratch7) (v := wOut m 1 c) rfl (Memref.readAt_unit_zero (Elt F) cc0_scratch7 off_zero _ _)) $$ HW5
  iintro HW5
  iapply (step_sbload c 5 (by decide) _ rfl) $$ HB
  iintro %_ HB
  iapply (step_early m c 5 (by decide) _ rfl ?_) $$ HB
  · rfl
  iintro HB Hq15 Hq16 Hq17
  iapply (step_send' m K c 15 (by decide) (by decide) _ ((show ∀ c, (⟨k0_dev19 c, k0_dev19_lt c⟩ : Dev nD) = tgt c 15 by decide) c) rfl rfl rfl rfl) $$ He HS Hq15
  iintro HS
  iapply (wp_done c (b := (part m 1 1 c)) ?_)
  · rfl
  iapply Hk $$ HS HW4 HW5 HB Hq16 Hq17

/-- Transfers 16 and 17; arrival 6. -/
theorem part13 {v3 v4 v5 : BitVec 32} {Q : _ → sProp 𝕄} : env m K ⊢ iprop(Snd c 16 -∗ Rcv m c 6 -∗ srcPts m c 16 -∗ srcPts m c 17
    -∗ (Snd c 18 -∗ Rcv m c 7 -∗ Q ⟨⟩)
    -∗ WP c (onArgs (k0_part13 (F := F)) c v3 v4 v5) Q) := by
  rw [onArgs, k0_part13_eq_skeleton]
  unfold k0_part13_skel
  simp only [semWaitWord, Prog.lift, Prog.bind_op, Prog.bind_ret, Prog.pure_eq_ret]
  iintro #He HS HR Hq16 Hq17 Hk
  iapply (step_send' m K c 16 (by decide) (by decide) _ ((show ∀ c, (⟨k0_dev20 c, k0_dev20_lt c⟩ : Dev nD) = tgt c 16 by decide) c) rfl rfl rfl rfl) $$ He HS Hq16
  iintro HS
  iapply (step_send' m K c 17 (by decide) (by decide) _ ((show ∀ c, (⟨k0_dev21 c, k0_dev21_lt c⟩ : Dev nD) = tgt c 17 by decide) c) rfl rfl rfl rfl) $$ He HS Hq17
  iintro HS
  iapply (step_recv m K c 6 (by decide) 18 (by decide) _ _ _ rfl) $$ He HS HR
  iintro HS HR
  iapply (wp_done c rfl)
  iapply Hk $$ HS HR

/-- Arrivals 7 and 8; chunk 2 of the second layer. -/
theorem part14 {v5 : BitVec 32} {Q : _ → sProp 𝕄} : env m K ⊢ iprop(Snd c 18 -∗ Rcv m c 7 -∗ Win m c 4 -∗ Win m c 5 -∗ Sb c 6
    -∗ (Snd c 18 -∗ Rcv m c 9 -∗ Win m c 4 -∗ Win m c 5 -∗ Sb c 6 -∗ Q ⟨part m 1 2 c, wire (part m 1 2 c)⟩)
    -∗ WP c (onArgs (k0_part14 (F := F)) v5 (part m 0 2 c)) Q) := by
  rw [onArgs, k0_part14_eq_skeleton]
  unfold k0_part14_skel
  simp only [semWaitWord, Prog.lift, Prog.bind_op, Prog.bind_ret, Prog.pure_eq_ret]
  iintro #He HS HR HW4 HW5 HB Hk
  iapply (step_recv m K c 7 (by decide) 18 (by decide) _ _ _ rfl) $$ He HS HR
  iintro HS HR
  iapply (step_recv m K c 8 (by decide) 18 (by decide) _ _ _ rfl) $$ He HS HR
  iintro HS HR
  iapply (step_cm' m c 6 (by decide) (by decide) 9 (by decide) rfl) $$ HR
  iintro HR
  iapply (step_cm' m c 7 (by decide) (by decide) 9 (by decide) rfl) $$ HR
  iintro HR
  iapply (step_cm' m c 8 (by decide) (by decide) 9 (by decide) rfl) $$ HR
  iintro HR
  iapply (step_load m c 4 (mr := Memref.whole cc0_scratch6) (v := wIn m 1 c) rfl (Memref.readAt_unit_zero (Elt F) cc0_scratch6 off_zero _ _)) $$ HW4
  iintro HW4
  iapply (step_load m c 5 (mr := Memref.whole cc0_scratch7) (v := wOut m 1 c) rfl (Memref.readAt_unit_zero (Elt F) cc0_scratch7 off_zero _ _)) $$ HW5
  iintro HW5
  iapply (step_sbload c 6 (by decide) _ rfl) $$ HB
  iintro %_ HB
  iapply (wp_done c (b := ⟨part m 1 2 c, wire (part m 1 2 c)⟩) ?_)
  · rfl
  iapply Hk $$ HS HR HW4 HW5 HB

/-- Its part is stored; transfers 18 and 19. -/
theorem part15 {v3 v4 v5 : BitVec 32} {Q : _ → sProp 𝕄} : env m K ⊢ iprop(Snd c 18 -∗ Sb c 6
    -∗ (Snd c 20 -∗ Sb c 7 -∗ srcPts m c 20 -∗ Q ⟨⟩)
    -∗ WP c (onArgs (k0_part15 (F := F)) c v3 v4 v5 (wire (part m 1 2 c))) Q) := by
  rw [onArgs, k0_part15_eq_skeleton]
  unfold k0_part15_skel
  simp only [semWaitWord, Prog.lift, Prog.bind_op, Prog.bind_ret, Prog.pure_eq_ret]
  iintro #He HS HB Hk
  iapply (step_early m c 6 (by decide) _ rfl ?_) $$ HB
  · rfl
  iintro HB Hq18 Hq19 Hq20
  iapply (step_send' m K c 18 (by decide) (by decide) _ ((show ∀ c, (⟨k0_dev22 c, k0_dev22_lt c⟩ : Dev nD) = tgt c 18 by decide) c) rfl rfl rfl rfl) $$ He HS Hq18
  iintro HS
  iapply (step_send' m K c 19 (by decide) (by decide) _ ((show ∀ c, (⟨k0_dev23 c, k0_dev23_lt c⟩ : Dev nD) = tgt c 19 by decide) c) rfl rfl rfl rfl) $$ He HS Hq19
  iintro HS
  iapply (wp_done c rfl)
  iapply Hk $$ HS HB Hq20

/-- Transfer 20; arrivals 9 and 10. -/
theorem part16 {v3 v4 v5 : BitVec 32} {Q : _ → sProp 𝕄} : env m K ⊢ iprop(Snd c 20 -∗ Rcv m c 9 -∗ srcPts m c 20
    -∗ (Snd c 21 -∗ Rcv m c 11 -∗ Q ⟨⟩)
    -∗ WP c (onArgs (k0_part16 (F := F)) c v3 v4 v5) Q) := by
  rw [onArgs, k0_part16_eq_skeleton]
  unfold k0_part16_skel
  simp only [semWaitWord, Prog.lift, Prog.bind_op, Prog.bind_ret, Prog.pure_eq_ret]
  iintro #He HS HR Hq20 Hk
  iapply (step_send' m K c 20 (by decide) (by decide) _ ((show ∀ c, (⟨k0_dev24 c, k0_dev24_lt c⟩ : Dev nD) = tgt c 20 by decide) c) rfl rfl rfl rfl) $$ He HS Hq20
  iintro HS
  iapply (step_recv m K c 9 (by decide) 21 (by decide) _ _ _ rfl) $$ He HS HR
  iintro HS HR
  iapply (step_recv m K c 10 (by decide) 21 (by decide) _ _ _ rfl) $$ He HS HR
  iintro HS HR
  iapply (wp_done c rfl)
  iapply Hk $$ HS HR

/-- Arrival 11; chunk 3 of the second layer. -/
theorem part17 {v3 : BitVec 32} {Q : _ → sProp 𝕄} : env m K ⊢ iprop(Snd c 21 -∗ Rcv m c 11 -∗ Win m c 4 -∗ Win m c 5 -∗ Sb c 7
    -∗ (Snd c 21 -∗ Rcv m c 12 -∗ Win m c 4 -∗ Win m c 5 -∗ Sb c 8 -∗ srcPts m c 21 -∗ srcPts m c 22 -∗ srcPts m c 23 -∗ Q (part m 1 3 c))
    -∗ WP c (onArgs (k0_part17 (F := F)) v3 (part m 0 3 c)) Q) := by
  rw [onArgs, k0_part17_eq_skeleton]
  unfold k0_part17_skel
  simp only [semWaitWord, Prog.lift, Prog.bind_op, Prog.bind_ret, Prog.pure_eq_ret]
  iintro #He HS HR HW4 HW5 HB Hk
  iapply (step_recv m K c 11 (by decide) 21 (by decide) _ _ _ rfl) $$ He HS HR
  iintro HS HR
  iapply (step_cm' m c 9 (by decide) (by decide) 12 (by decide) rfl) $$ HR
  iintro HR
  iapply (step_cm' m c 10 (by decide) (by decide) 12 (by decide) rfl) $$ HR
  iintro HR
  iapply (step_cm' m c 11 (by decide) (by decide) 12 (by decide) rfl) $$ HR
  iintro HR
  iapply (step_load m c 4 (mr := Memref.whole cc0_scratch6) (v := wIn m 1 c) rfl (Memref.readAt_unit_zero (Elt F) cc0_scratch6 off_zero _ _)) $$ HW4
  iintro HW4
  iapply (step_load m c 5 (mr := Memref.whole cc0_scratch7) (v := wOut m 1 c) rfl (Memref.readAt_unit_zero (Elt F) cc0_scratch7 off_zero _ _)) $$ HW5
  iintro HW5
  iapply (step_sbload c 7 (by decide) _ rfl) $$ HB
  iintro %_ HB
  iapply (step_early m c 7 (by decide) _ rfl ?_) $$ HB
  · rfl
  iintro HB Hq21 Hq22 Hq23
  iapply (wp_done c (b := (part m 1 3 c)) ?_)
  · rfl
  iapply Hk $$ HS HR HW4 HW5 HB Hq21 Hq22 Hq23

/-- Transfers 21 to 23. -/
theorem part18 {v3 v4 v5 : BitVec 32} {Q : _ → sProp 𝕄} : env m K ⊢ iprop(Snd c 21 -∗ srcPts m c 21 -∗ srcPts m c 22 -∗ srcPts m c 23
    -∗ (Snd c 24 -∗ Q ⟨⟩)
    -∗ WP c (onArgs (k0_part18 (F := F)) c v3 v4 v5) Q) := by
  rw [onArgs, k0_part18_eq_skeleton]
  unfold k0_part18_skel
  simp only [semWaitWord, Prog.lift, Prog.bind_op, Prog.bind_ret, Prog.pure_eq_ret]
  iintro #He HS Hq21 Hq22 Hq23 Hk
  iapply (step_send' m K c 21 (by decide) (by decide) _ ((show ∀ c, (⟨k0_dev25 c, k0_dev25_lt c⟩ : Dev nD) = tgt c 21 by decide) c) rfl rfl rfl rfl) $$ He HS Hq21
  iintro HS
  iapply (step_send' m K c 22 (by decide) (by decide) _ ((show ∀ c, (⟨k0_dev26 c, k0_dev26_lt c⟩ : Dev nD) = tgt c 22 by decide) c) rfl rfl rfl rfl) $$ He HS Hq22
  iintro HS
  iapply (step_send' m K c 23 (by decide) (by decide) _ ((show ∀ c, (⟨k0_dev27 c, k0_dev27_lt c⟩ : Dev nD) = tgt c 23 by decide) c) rfl rfl rfl rfl) $$ He HS Hq23
  iintro HS
  iapply (wp_done c rfl)
  iapply Hk $$ HS

end Parts

end Cert.Exchange

end
-- ==== Proof.Part4.lean ====
/-
The body of the exchange, part by part: the third layer.
-/
module

public import proofs.«01_k».proof.Proof.Part3

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Parts
variable (K : Names) (c : Dev nD)

/-- Arrivals 12 to 14: chunk 0 of the second layer is summed. -/
theorem part19 {v4 v5 : BitVec 32} {Q : _ → sProp 𝕄} : env m K ⊢ iprop(Snd c 24 -∗ Rcv m c 12
    -∗ (Snd c 24 -∗ Rcv m c 15 -∗ Q (k0_pay12 (part m 1 0 c) (wire (part m 1 0 (peer 0 c))) (wire (part m 1 0 (peer 1 c))) (wire (part m 1 0 (peer 2 c)))))
    -∗ WP c (onArgs (k0_part19 (F := F)) v4 v5 (part m 1 0 c)) Q) := by
  rw [onArgs, k0_part19_eq_skeleton]
  unfold k0_part19_skel
  simp only [semWaitWord, Prog.lift, Prog.bind_op, Prog.bind_ret, Prog.pure_eq_ret]
  iintro #He HS HR Hk
  iapply (step_recv m K c 12 (by decide) 24 (by decide) _ _ _ rfl) $$ He HS HR
  iintro HS HR
  iapply (step_recv m K c 13 (by decide) 24 (by decide) _ _ _ rfl) $$ He HS HR
  iintro HS HR
  iapply (step_recv m K c 14 (by decide) 24 (by decide) _ _ _ rfl) $$ He HS HR
  iintro HS HR
  iapply (step_cm' m c 12 (by decide) (by decide) 15 (by decide) rfl) $$ HR
  iintro HR
  iapply (step_cm' m c 13 (by decide) (by decide) 15 (by decide) rfl) $$ HR
  iintro HR
  iapply (step_cm' m c 14 (by decide) (by decide) 15 (by decide) rfl) $$ HR
  iintro HR
  iapply (wp_done c (b := (k0_pay12 (part m 1 0 c) (wire (part m 1 0 (peer 0 c))) (wire (part m 1 0 (peer 1 c))) (wire (part m 1 0 (peer 2 c))))) ?_)
  · rfl
  iapply Hk $$ HS HR

/-- The last layer's weights are there; its chunk 0 is stored to send and to stage; arrival 15. -/
theorem part20 {v3 v4 : BitVec 32} {Q : _ → sProp 𝕄} : env m K ⊢ iprop(Snd c 24 -∗ Rcv m c 15 -∗ Fly c 6 -∗ Fly c 7 -∗ Sb c 8 -∗ Sl m c 0 -∗ Stg m c 0
    -∗ (Snd c 24 -∗ Rcv m c 16 -∗ Win m c 6 -∗ Win m c 7 -∗ Sb c 9 -∗ Sl m c 1 -∗ Stg m c 1 -∗ Q (Scalar.muli v4 1#32))
    -∗ WP c (onArgs (k0_part20 (F := F)) v3 v4 (k0_pay12 (part m 1 0 c) (wire (part m 1 0 (peer 0 c))) (wire (part m 1 0 (peer 1 c))) (wire (part m 1 0 (peer 2 c))))) Q) := by
  rw [onArgs, k0_part20_eq_skeleton]
  unfold k0_part20_skel
  simp only [semWaitWord, Prog.lift, Prog.bind_op, Prog.bind_ret, Prog.pure_eq_ret]
  iintro #He HS HR HF6 HF7 HB HL HG Hk
  iapply (step_landed' m K c 6 24 (src := Memref.whole main_arg3) (dst := Memref.whole cc0_scratch8) (wSem_eq _ 4 rfl) rfl) $$ He HS HF6
  iintro HS HW6
  iapply (step_load m c 6 (mr := Memref.whole cc0_scratch8) (v := wIn m 2 c) rfl (Memref.readAt_unit_zero (Elt F) cc0_scratch8 off_zero _ _)) $$ HW6
  iintro HW6
  iapply (step_landed' m K c 7 24 (src := Memref.whole main_arg6) (dst := Memref.whole cc0_scratch9) (wSem_eq _ 5 rfl) rfl) $$ He HS HF7
  iintro HS HW7
  iapply (step_load m c 7 (mr := Memref.whole cc0_scratch9) (v := wOut m 2 c) rfl (Memref.readAt_unit_zero (Elt F) cc0_scratch9 off_zero _ _)) $$ HW7
  iintro HW7
  iapply (step_sbload c 8 (by decide) _ rfl) $$ HB
  iintro %_ HB
  iapply (step_late m c 0 (by decide) _ rfl ?_) $$ HB HL
  · rfl
  iintro HB HL
  iapply (step_stgload m c 0) $$ HG
  iintro %_ HG
  iapply (step_stgstore m c 0 _ rfl ?_) $$ HG
  · rfl
  iintro HG
  iapply (step_recv m K c 15 (by decide) 24 (by decide) _ _ _ rfl) $$ He HS HR
  iintro HS HR
  iapply (wp_done c (b := (Scalar.muli v4 1#32)) ?_)
  · rfl
  iapply Hk $$ HS HR HW6 HW7 HB HL HG

/-- Arrivals 16 and 17: chunk 1 of the second layer is summed. -/
theorem part21 {v4 v5 : BitVec 32} {Q : _ → sProp 𝕄} : env m K ⊢ iprop(Snd c 24 -∗ Rcv m c 16 -∗ Win m c 6
    -∗ (Snd c 24 -∗ Rcv m c 18 -∗ Win m c 6 -∗ Q (k0_pay23 (part m 1 1 c) (wire (part m 1 1 (peer 0 c))) (wire (part m 1 1 (peer 1 c))) (wire (part m 1 1 (peer 2 c))) (wIn m 2 c)))
    -∗ WP c (onArgs (k0_part21 (F := F)) v5 (part m 1 1 c) v4) Q) := by
  rw [onArgs, k0_part21_eq_skeleton]
  unfold k0_part21_skel
  simp only [semWaitWord, Prog.lift, Prog.bind_op, Prog.bind_ret, Prog.pure_eq_ret]
  iintro #He HS HR HW6 Hk
  iapply (step_recv m K c 16 (by decide) 24 (by decide) _ _ _ rfl) $$ He HS HR
  iintro HS HR
  iapply (step_recv m K c 17 (by decide) 24 (by decide) _ _ _ rfl) $$ He HS HR
  iintro HS HR
  iapply (step_cm' m c 15 (by decide) (by decide) 18 (by decide) rfl) $$ HR
  iintro HR
  iapply (step_cm' m c 16 (by decide) (by decide) 18 (by decide) rfl) $$ HR
  iintro HR
  iapply (step_cm' m c 17 (by decide) (by decide) 18 (by decide) rfl) $$ HR
  iintro HR
  iapply (step_load m c 6 (mr := Memref.whole cc0_scratch8) (v := wIn m 2 c) rfl (Memref.readAt_unit_zero (Elt F) cc0_scratch8 off_zero _ _)) $$ HW6
  iintro HW6
  iapply (wp_done c (b := (k0_pay23 (part m 1 1 c) (wire (part m 1 1 (peer 0 c))) (wire (part m 1 1 (peer 1 c))) (wire (part m 1 1 (peer 2 c))) (wIn m 2 c))) ?_)
  · rfl
  iapply Hk $$ HS HR HW6

/-- Chunk 1 of the last layer is stored to send and to stage; arrivals 18 and 19. -/
theorem part22 {v3 v4 : BitVec 32} {Q : _ → sProp 𝕄} : env m K ⊢ iprop(Snd c 24 -∗ Rcv m c 18 -∗ Win m c 7 -∗ Sb c 9 -∗ Sl m c 1 -∗ Stg m c 1
    -∗ (Snd c 24 -∗ Rcv m c 20 -∗ Win m c 7 -∗ Sb c 10 -∗ Sl m c 2 -∗ Stg m c 2 -∗ Q ⟨⟩)
    -∗ WP c (onArgs (k0_part22 (F := F)) v3 v4 (k0_pay23 (part m 1 1 c) (wire (part m 1 1 (peer 0 c))) (wire (part m 1 1 (peer 1 c))) (wire (part m 1 1 (peer 2 c))) (wIn m 2 c))) Q) := by
  rw [onArgs, k0_part22_eq_skeleton]
  unfold k0_part22_skel
  simp only [semWaitWord, Prog.lift, Prog.bind_op, Prog.bind_ret, Prog.pure_eq_ret]
  iintro #He HS HR HW7 HB HL HG Hk
  iapply (step_load m c 7 (mr := Memref.whole cc0_scratch9) (v := wOut m 2 c) rfl (Memref.readAt_unit_zero (Elt F) cc0_scratch9 off_zero _ _)) $$ HW7
  iintro HW7
  iapply (step_sbload c 9 (by decide) _ rfl) $$ HB
  iintro %_ HB
  iapply (step_late m c 1 (by decide) _ rfl ?_) $$ HB HL
  · rfl
  iintro HB HL
  iapply (step_stgload m c 1) $$ HG
  iintro %_ HG
  iapply (step_stgstore m c 1 _ rfl ?_) $$ HG
  · rfl
  iintro HG
  iapply (step_recv m K c 18 (by decide) 24 (by decide) _ _ _ rfl) $$ He HS HR
  iintro HS HR
  iapply (step_recv m K c 19 (by decide) 24 (by decide) _ _ _ rfl) $$ He HS HR
  iintro HS HR
  iapply (wp_done c rfl)
  iapply Hk $$ HS HR HW7 HB HL HG

/-- Arrival 20; chunk 2 of the last layer is stored to send. -/
theorem part23 {v5 : BitVec 32} {Q : _ → sProp 𝕄} : env m K ⊢ iprop(Snd c 24 -∗ Rcv m c 20 -∗ Win m c 6 -∗ Win m c 7 -∗ Sb c 10 -∗ Sl m c 2 -∗ Stg m c 2
    -∗ (Snd c 24 -∗ Rcv m c 21 -∗ Win m c 6 -∗ Win m c 7 -∗ Sb c 11 -∗ Sl m c 3 -∗ Stg m c 2 -∗ Q (shapeCast S16x512 (part m 2 2 c) shapeCasts_S16x512_S16x512))
    -∗ WP c (onArgs (k0_part23 (F := F)) v5 (part m 1 2 c)) Q) := by
  rw [onArgs, k0_part23_eq_skeleton]
  unfold k0_part23_skel
  simp only [semWaitWord, Prog.lift, Prog.bind_op, Prog.bind_ret, Prog.pure_eq_ret]
  iintro #He HS HR HW6 HW7 HB HL HG Hk
  iapply (step_recv m K c 20 (by decide) 24 (by decide) _ _ _ rfl) $$ He HS HR
  iintro HS HR
  iapply (step_cm' m c 18 (by decide) (by decide) 21 (by decide) rfl) $$ HR
  iintro HR
  iapply (step_cm' m c 19 (by decide) (by decide) 21 (by decide) rfl) $$ HR
  iintro HR
  iapply (step_cm' m c 20 (by decide) (by decide) 21 (by decide) rfl) $$ HR
  iintro HR
  iapply (step_load m c 6 (mr := Memref.whole cc0_scratch8) (v := wIn m 2 c) rfl (Memref.readAt_unit_zero (Elt F) cc0_scratch8 off_zero _ _)) $$ HW6
  iintro HW6
  iapply (step_load m c 7 (mr := Memref.whole cc0_scratch9) (v := wOut m 2 c) rfl (Memref.readAt_unit_zero (Elt F) cc0_scratch9 off_zero _ _)) $$ HW7
  iintro HW7
  iapply (step_sbload c 10 (by decide) _ rfl) $$ HB
  iintro %_ HB
  iapply (step_late m c 2 (by decide) _ rfl ?_) $$ HB HL
  · rfl
  iintro HB HL
  iapply (step_stgload m c 2) $$ HG
  iintro %_ HG
  iapply (wp_done c (b := (shapeCast S16x512 (part m 2 2 c) shapeCasts_S16x512_S16x512)) ?_)
  · rfl
  iapply Hk $$ HS HR HW6 HW7 HB HL HG

/-- It is stored to stage; arrivals 21 to 23. -/
theorem part24 {v3 v4 v5 : BitVec 32} {Q : _ → sProp 𝕄} : env m K ⊢ iprop(Snd c 24 -∗ Rcv m c 21 -∗ Stg m c 2
    -∗ (Snd c 24 -∗ Rcv m c 24 -∗ Stg m c 3 -∗ Q ⟨⟩)
    -∗ WP c (onArgs (k0_part24 (F := F)) v3 v4 v5 (shapeCast S16x512 (part m 2 2 c) shapeCasts_S16x512_S16x512)) Q) := by
  rw [onArgs, k0_part24_eq_skeleton]
  unfold k0_part24_skel
  simp only [semWaitWord, Prog.lift, Prog.bind_op, Prog.bind_ret, Prog.pure_eq_ret]
  iintro #He HS HR HG Hk
  iapply (step_stgstore m c 2 _ rfl ?_) $$ HG
  · rfl
  iintro HG
  iapply (step_recv m K c 21 (by decide) 24 (by decide) _ _ _ rfl) $$ He HS HR
  iintro HS HR
  iapply (step_recv m K c 22 (by decide) 24 (by decide) _ _ _ rfl) $$ He HS HR
  iintro HS HR
  iapply (step_recv m K c 23 (by decide) 24 (by decide) _ _ _ rfl) $$ He HS HR
  iintro HS HR
  iapply (wp_done c rfl)
  iapply Hk $$ HS HR HG

/-- Chunk 3 of the second layer is summed; chunk 3 of the last is stored to send and to stage. -/
theorem part25 {v3 : BitVec 32} {Q : _ → sProp 𝕄} : env m K ⊢ iprop(Rcv m c 24 -∗ Win m c 6 -∗ Win m c 7 -∗ Sb c 11 -∗ Sl m c 3 -∗ Stg m c 3
    -∗ (Rcv m c 24 -∗ Win m c 6 -∗ Win m c 7 -∗ Sb c 12 -∗ Sl m c 4 -∗ Stg m c 4 -∗ Q ⟨⟩)
    -∗ WP c (onArgs (k0_part25 (F := F)) v3 (part m 1 3 c)) Q) := by
  rw [onArgs, k0_part25_eq_skeleton]
  unfold k0_part25_skel
  simp only [semWaitWord, Prog.lift, Prog.bind_op, Prog.bind_ret, Prog.pure_eq_ret]
  iintro #He HR HW6 HW7 HB HL HG Hk
  iapply (step_cm' m c 21 (by decide) (by decide) 24 (by decide) rfl) $$ HR
  iintro HR
  iapply (step_cm' m c 22 (by decide) (by decide) 24 (by decide) rfl) $$ HR
  iintro HR
  iapply (step_cm' m c 23 (by decide) (by decide) 24 (by decide) rfl) $$ HR
  iintro HR
  iapply (step_load m c 6 (mr := Memref.whole cc0_scratch8) (v := wIn m 2 c) rfl (Memref.readAt_unit_zero (Elt F) cc0_scratch8 off_zero _ _)) $$ HW6
  iintro HW6
  iapply (step_load m c 7 (mr := Memref.whole cc0_scratch9) (v := wOut m 2 c) rfl (Memref.readAt_unit_zero (Elt F) cc0_scratch9 off_zero _ _)) $$ HW7
  iintro HW7
  iapply (step_sbload c 11 (by decide) _ rfl) $$ HB
  iintro %_ HB
  iapply (step_late m c 3 (by decide) _ rfl ?_) $$ HB HL
  · rfl
  iintro HB HL
  iapply (step_stgload m c 3) $$ HG
  iintro %_ HG
  iapply (step_stgstore m c 3 _ rfl ?_) $$ HG
  · rfl
  iintro HG
  iapply (wp_done c rfl)
  iapply Hk $$ HR HW6 HW7 HB HL HG

end Parts

end Cert.Exchange

end
-- ==== Proof.Part5.lean ====
/-
The body of the exchange, part by part: the last transfers, the result, and the waits on the sends.
-/
module

public import proofs.«01_k».proof.Proof.Part4

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Parts
variable (K : Names) (c : Dev nD)

/-- The last transfers leave from the slots of the chunks of the devices they go to. -/
theorem off_slot : k0_off1 c 1#32 = ![srcSlot c 24, 0, 0] ∧ k0_off2 c = ![srcSlot c 25, 0, 0] ∧ k0_off1 c 2#32 = ![srcSlot c 26, 0, 0] := by
  revert c
  decide

/-- The rows of the stage that a device keeps. -/
theorem off_own : k0_off3 c = ![16 * c.val, 0] := by
  revert c
  decide

/-- A load of the output's scratch buffer before it is written. -/
theorem step_outload {r : LoadRect S16x512} {hl : osM.view.LoadsAt r}
    {α : Type} {Q : α → sProp 𝕄} {k : _ → Prog (TpuEff nD τ sig (Elt F) Λ₀ .tc) α} :
    anyPts (F := F) c cc0_scratch10 ⊢ iprop((∀ v, anyPts c cc0_scratch10 -∗ WP c (k v) Q) -∗ WP c (.op (.load osM r hl) k) Q) := by
  iintro ⟨%f, HP⟩ Hk
  iapply (wp_load 𝒱₀ (c : Thread nD τ) none Set.univ (m := osM) (S := Finset.univ) (f := f) (Finset.subset_univ _)) $$ HP
  iintro HP
  iapply Hk
  iexists f
  iexact HP

/-- The store of the device's rows of the result. -/
theorem step_outstore {off : Fin 2 → ℕ} (h : ∀ a, off a + S16x512.size a ≤ S16x512.size a) (hoff : off = fun _ => 0) {w : Vec F S16x512 .f32} (hw : w = outV m c)
    {hx : (osM.access (Rect.unit (s := S16x512) off S16x512.size h)).Stores Finset.univ} {hm}
    {α : Type} {Q : α → sProp 𝕄} {k : PUnit → Prog (TpuEff nD τ sig (Elt F) Λ₀ .tc) α} :
    anyPts (F := F) c cc0_scratch10 ⊢ iprop((((c : Thread nD τ).loc cc0_scratch10 ↦{fullShare} outV m c) -∗ WP c (k ⟨⟩) Q)
        -∗ WP c (.op (.store osM (Rect.unit (s := S16x512) off S16x512.size h) w Finset.univ hx hm) k) Q) := by
  subst hw
  iintro ⟨%f, HP⟩ Hk
  iapply (wp_store 𝒱₀ (c : Thread nD τ) none Set.univ (m := osM) (r := Rect.unit (s := S16x512) off S16x512.size h) (S := Finset.univ) (f := f)
    (Finset.subset_univ _)) $$ HP
  iintro HP
  iapply Hk
  rw [show (osM.access (Rect.unit (s := S16x512) off S16x512.size h)).write (Elt F) f (outV m c) Finset.univ = outV m c from
    Memref.write_access_unit_zero_univ (Elt F) cc0_scratch10 hoff _ f (outV m c)]
  iexact HP

/-- What the waits on the sends start from. -/
abbrev sendPos : sProp 𝕄 := bigSep Finset.univ (fun e : Fin 27 => (atPos ER (sendCell c e) 0 ∅ 0 : sProp 𝕄))

/-- Transfers 24 to 26: to each peer the chunk that it keeps. -/
theorem part26 {v3 v4 v5 : BitVec 32} {Q : _ → sProp 𝕄} : env m K ⊢ iprop(Snd c 24 -∗ srcPts m c 24 -∗ srcPts m c 25 -∗ srcPts m c 26
    -∗ (Snd c 27 -∗ Q ⟨⟩)
    -∗ WP c (onArgs (k0_part26 (F := F)) c v3 v4 v5) Q) := by
  rw [onArgs, k0_part26_eq_skeleton]
  unfold k0_part26_skel
  simp only [semWaitWord, Prog.lift, Prog.bind_op, Prog.bind_ret, Prog.pure_eq_ret]
  iintro #He HS Hq24 Hq25 Hq26 Hk
  iapply (step_send m K c 24 (by decide) _ ((show ∀ c, (⟨k0_dev28 c, k0_dev28_lt c⟩ : Dev nD) = tgt c 24 by decide) c) _ _ _ _ (off_slot c).1 rfl rfl rfl) $$ He HS Hq24
  iintro HS
  iapply (step_send m K c 25 (by decide) _ ((show ∀ c, (⟨k0_dev29 c, k0_dev29_lt c⟩ : Dev nD) = tgt c 25 by decide) c) _ _ _ _ (off_slot c).2.1 rfl rfl rfl) $$ He HS Hq25
  iintro HS
  iapply (step_send m K c 26 (by decide) _ ((show ∀ c, (⟨k0_dev30 c, k0_dev30_lt c⟩ : Dev nD) = tgt c 26 by decide) c) _ _ _ _ (off_slot c).2.2 rfl rfl rfl) $$ He HS Hq26
  iintro HS
  iapply (wp_done c rfl)
  iapply Hk $$ HS

/-- Arrivals 24 to 26: the three others' parts of the chunk this device keeps. -/
theorem part27 {v4 v5 : BitVec 32} {Q : _ → sProp 𝕄} : env m K ⊢ iprop(Snd c 27 -∗ Rcv m c 24
    -∗ (Snd c 27 -∗ Rcv m c 27 -∗ Q ⟨k0_pay33 (wire (part m 2 c.val (peer 0 c))) (wire (part m 2 c.val (peer 1 c))), k0_pay34 (wire (part m 2 c.val (peer 2 c)))⟩)
    -∗ WP c (onArgs (k0_part27 (F := F)) c v4 v5) Q) := by
  rw [onArgs, k0_part27_eq_skeleton]
  unfold k0_part27_skel
  simp only [semWaitWord, Prog.lift, Prog.bind_op, Prog.bind_ret, Prog.pure_eq_ret]
  iintro #He HS HR Hk
  iapply (step_recv m K c 24 (by decide) 27 (by decide) _ _ _ rfl) $$ He HS HR
  iintro HS HR
  iapply (step_recv m K c 25 (by decide) 27 (by decide) _ _ _ rfl) $$ He HS HR
  iintro HS HR
  iapply (step_recv m K c 26 (by decide) 27 (by decide) _ _ _ rfl) $$ He HS HR
  iintro HS HR
  iapply (step_cm m c 24 (by decide) 27 (by decide) _ rfl) $$ HR
  iintro HR
  iapply (step_cm m c 25 (by decide) 27 (by decide) _ rfl) $$ HR
  iintro HR
  iapply (step_cm m c 26 (by decide) 27 (by decide) _ rfl) $$ HR
  iintro HR
  rw [slotPart_late m c (e := 24) (by decide), slotPart_late m c (e := 25) (by decide), slotPart_late m c (e := 26) (by decide)]
  iapply (wp_done c (b := ⟨k0_pay33 (wire (part m 2 c.val (peer 0 c))) (wire (part m 2 c.val (peer 1 c))), k0_pay34 (wire (part m 2 c.val (peer 2 c)))⟩) ?_)
  · rfl
  iapply Hk $$ HS HR

/-- The device's own part is added, the result is copied out; the first two sends are waited for. -/
theorem part28 {v2 : BitVec 32} {Q : _ → sProp 𝕄} : env m K ⊢ iprop(Snd c 27 -∗ sendPos (F := F) c -∗ Stg m c 4 -∗ anyPts c cc0_scratch10 -∗ anyPts c main_v1 -∗ Cold c 1
    -∗ (Back m c 2 -∗ Stg m c 4 -∗ Win m c 1 -∗ Q ⟨⟩)
    -∗ WP c (onArgs (k0_part28 (F := F)) c v2 (k0_pay33 (wire (part m 2 c.val (peer 0 c))) (wire (part m 2 c.val (peer 1 c)))) (k0_pay34 (wire (part m 2 c.val (peer 2 c))))) Q) := by
  rw [onArgs, k0_part28_eq_skeleton]
  unfold k0_part28_skel
  simp only [semWaitWord, Prog.lift, Prog.bind_op, Prog.bind_ret, Prog.pure_eq_ret]
  iintro #He HS HA HG HX HY HT1 Hk
  iapply (step_stgrow m c _ (off_own c)) $$ HG
  iintro HG
  iapply (step_outload c) $$ HX
  iintro %_ HX
  iapply (step_outstore m c _ off_zero rfl) $$ HX
  iintro HX
  iapply (step_copy m K c 1 (src := Memref.whole cc0_scratch10) (dst := Memref.whole main_v1) oSem_eq rfl (View.set_whole _) (View.set_whole _) (fs := outV m c) (g := outV m c)
    (fun fd => View.write_whole_univ _ fd _) rfl) $$ He HT1 HX HY
  iintro HF1
  iapply (step_landed' m K c 1 27 (src := Memref.whole cc0_scratch10) (dst := Memref.whole main_v1) oSem_eq rfl) $$ He HS HF1
  iintro HS HW1
  ihave HK := (back_start m c) $$ [HS HA]
  · isplitl [HS] <;> iassumption
  iapply (step_back m K c 0 (by decide) _ _ _ rfl) $$ He HK
  iintro HK
  iapply (step_back m K c 1 (by decide) _ _ _ rfl) $$ He HK
  iintro HK
  iapply (wp_done c rfl)
  iapply Hk $$ HK HG HW1

/-- Sends 2 to 5 are waited for. -/
theorem part29 {Q : _ → sProp 𝕄} : env m K ⊢ iprop(Back m c 2
    -∗ (Back m c 6 -∗ Q ⟨⟩)
    -∗ WP c (onArgs (k0_part29 (F := F))) Q) := by
  rw [onArgs, k0_part29_eq_skeleton]
  unfold k0_part29_skel
  simp only [semWaitWord, Prog.lift, Prog.bind_op, Prog.bind_ret, Prog.pure_eq_ret]
  iintro #He HK Hk
  iapply (step_back m K c 2 (by decide) _ _ _ rfl) $$ He HK
  iintro HK
  iapply (step_back m K c 3 (by decide) _ _ _ rfl) $$ He HK
  iintro HK
  iapply (step_back m K c 4 (by decide) _ _ _ rfl) $$ He HK
  iintro HK
  iapply (step_back m K c 5 (by decide) _ _ _ rfl) $$ He HK
  iintro HK
  iapply (wp_done c rfl)
  iapply Hk $$ HK

/-- Sends 6 to 9 are waited for. -/
theorem part30 {Q : _ → sProp 𝕄} : env m K ⊢ iprop(Back m c 6
    -∗ (Back m c 10 -∗ Q ⟨⟩)
    -∗ WP c (onArgs (k0_part30 (F := F))) Q) := by
  rw [onArgs, k0_part30_eq_skeleton]
  unfold k0_part30_skel
  simp only [semWaitWord, Prog.lift, Prog.bind_op, Prog.bind_ret, Prog.pure_eq_ret]
  iintro #He HK Hk
  iapply (step_back m K c 6 (by decide) _ _ _ rfl) $$ He HK
  iintro HK
  iapply (step_back m K c 7 (by decide) _ _ _ rfl) $$ He HK
  iintro HK
  iapply (step_back m K c 8 (by decide) _ _ _ rfl) $$ He HK
  iintro HK
  iapply (step_back m K c 9 (by decide) _ _ _ rfl) $$ He HK
  iintro HK
  iapply (wp_done c rfl)
  iapply Hk $$ HK

/-- Sends 10 to 13 are waited for. -/
theorem part31 {Q : _ → sProp 𝕄} : env m K ⊢ iprop(Back m c 10
    -∗ (Back m c 14 -∗ Q ⟨⟩)
    -∗ WP c (onArgs (k0_part31 (F := F))) Q) := by
  rw [onArgs, k0_part31_eq_skeleton]
  unfold k0_part31_skel
  simp only [semWaitWord, Prog.lift, Prog.bind_op, Prog.bind_ret, Prog.pure_eq_ret]
  iintro #He HK Hk
  iapply (step_back m K c 10 (by decide) _ _ _ rfl) $$ He HK
  iintro HK
  iapply (step_back m K c 11 (by decide) _ _ _ rfl) $$ He HK
  iintro HK
  iapply (step_back m K c 12 (by decide) _ _ _ rfl) $$ He HK
  iintro HK
  iapply (step_back m K c 13 (by decide) _ _ _ rfl) $$ He HK
  iintro HK
  iapply (wp_done c rfl)
  iapply Hk $$ HK

/-- Sends 14 to 16 are waited for. -/
theorem part32 {Q : _ → sProp 𝕄} : env m K ⊢ iprop(Back m c 14
    -∗ (Back m c 17 -∗ Q ⟨⟩)
    -∗ WP c (onArgs (k0_part32 (F := F))) Q) := by
  rw [onArgs, k0_part32_eq_skeleton]
  unfold k0_part32_skel
  simp only [semWaitWord, Prog.lift, Prog.bind_op, Prog.bind_ret, Prog.pure_eq_ret]
  iintro #He HK Hk
  iapply (step_back m K c 14 (by decide) _ _ _ rfl) $$ He HK
  iintro HK
  iapply (step_back m K c 15 (by decide) _ _ _ rfl) $$ He HK
  iintro HK
  iapply (step_back m K c 16 (by decide) _ _ _ rfl) $$ He HK
  iintro HK
  iapply (wp_done c rfl)
  iapply Hk $$ HK

/-- Sends 17 to 20 are waited for. -/
theorem part33 {Q : _ → sProp 𝕄} : env m K ⊢ iprop(Back m c 17
    -∗ (Back m c 21 -∗ Q ⟨⟩)
    -∗ WP c (onArgs (k0_part33 (F := F))) Q) := by
  rw [onArgs, k0_part33_eq_skeleton]
  unfold k0_part33_skel
  simp only [semWaitWord, Prog.lift, Prog.bind_op, Prog.bind_ret, Prog.pure_eq_ret]
  iintro #He HK Hk
  iapply (step_back m K c 17 (by decide) _ _ _ rfl) $$ He HK
  iintro HK
  iapply (step_back m K c 18 (by decide) _ _ _ rfl) $$ He HK
  iintro HK
  iapply (step_back m K c 19 (by decide) _ _ _ rfl) $$ He HK
  iintro HK
  iapply (step_back m K c 20 (by decide) _ _ _ rfl) $$ He HK
  iintro HK
  iapply (wp_done c rfl)
  iapply Hk $$ HK

/-- Sends 21 to 24 are waited for. -/
theorem part34 {Q : _ → sProp 𝕄} : env m K ⊢ iprop(Back m c 21
    -∗ (Back m c 25 -∗ Q ⟨⟩)
    -∗ WP c (onArgs (k0_part34 (F := F)) c) Q) := by
  rw [onArgs, k0_part34_eq_skeleton]
  unfold k0_part34_skel
  simp only [semWaitWord, Prog.lift, Prog.bind_op, Prog.bind_ret, Prog.pure_eq_ret]
  iintro #He HK Hk
  iapply (step_back m K c 21 (by decide) _ _ _ rfl) $$ He HK
  iintro HK
  iapply (step_back m K c 22 (by decide) _ _ _ rfl) $$ He HK
  iintro HK
  iapply (step_back m K c 23 (by decide) _ _ _ rfl) $$ He HK
  iintro HK
  iapply (step_back m K c 24 (by decide) _ _ _ rfl) $$ He HK
  iintro HK
  iapply (wp_done c rfl)
  iapply Hk $$ HK

end Parts

end Cert.Exchange

end
-- ==== Proof.Body.lean ====
/-
The body of the exchange on one device: its parts in sequence.
-/
module

public import proofs.«01_k».proof.Proof.Part5

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Parts
variable (K : Names) (c : Dev nD)

/-- What a device starts from: its duties and tickets, its arguments, and its buffers holding anything. -/
def Start : sProp 𝕄 :=
  iprop(Sig c 0 ∗ (Cold c 0 ∗ Cold c 1 ∗ Cold c 2 ∗ Cold c 3 ∗ Cold c 4 ∗ Cold c 5 ∗ Cold c 6 ∗ Cold c 7)
    ∗ (argPts m c main_arg0 ∗ argPts m c main_arg1 ∗ argPts m c main_arg2 ∗ argPts m c main_arg3 ∗ argPts m c main_arg4 ∗ argPts m c main_arg5 ∗ argPts m c main_arg6)
    ∗ (anyPts c cc0_scratch3 ∗ anyPts c cc0_scratch4 ∗ anyPts c cc0_scratch5 ∗ anyPts c cc0_scratch6 ∗ anyPts c cc0_scratch7 ∗ anyPts c cc0_scratch8 ∗ anyPts c cc0_scratch9)
    ∗ (cred (tallyAt (barCell c) () 3) ∗ atPos ER (barCell c) 0 ∅ 0) ∗ bigSep Finset.univ (sendToks (F := F) c)
    ∗ Sb c 0 ∗ Sl m c 0 ∗ Stg m c 0 ∗ Rcv m c 0 ∗ sendPos c ∗ anyPts c cc0_scratch10 ∗ anyPts c main_v1)

/-- What it ends with: every wait made, the result written, every buffer back. -/
def Finish : sProp 𝕄 :=
  iprop(Back m c 27 ∗ Rcv m c 27 ∗ (Win m c 0 ∗ Win m c 1 ∗ Win m c 2 ∗ Win m c 3 ∗ Win m c 4 ∗ Win m c 5 ∗ Win m c 6 ∗ Win m c 7)
    ∗ (sbLoc c ↦[bset c (8 + c.val)]{fullShare} sbV m c) ∗ Stg m c 4 ∗ semVal (barCell c) 0)

/-- The body, from its start to its end. -/
theorem body_run {Q : _ → sProp 𝕄} : env m K ⊢ iprop(Start m c -∗ (Finish m c -∗ Q ⟨⟩) -∗ WP c (onArgs (cc0_body (F := F))) Q) := by
  rw [onArgs, cc0_body_eq_skeleton]
  unfold cc0_body_skel Start Finish
  simp only [semWaitWord, Prog.lift, Prog.pure_eq_ret]
  iintro #He ⟨HO, ⟨HT0, HT1, HT2, HT3, HT4, HT5, HT6, HT7⟩, ⟨Ha0, Ha1, Ha2, Ha3, Ha4, Ha5, Ha6⟩, ⟨Hs3, Hs4, Hs5, Hs6, Hs7, Hs8, Hs9⟩, HBar, HTk,
    HB, HL, HG, HR, HA, HX, HY⟩ Hk
  iapply (wp_then c)
  iapply (part1 m K c) $$ He HO HT0 HT2 HT3 Ha0 Hs3 Ha1 Hs4 Ha4 Hs5
  iintro %v2 %v3 %v4 %v5 HO HW0 HW2 HF3
  dsimp only
  iapply (wp_then c)
  iapply (part2 m K c) $$ He HO HF3 HBar HTk HB
  iintro HS HZ HW3 HB Hq1 Hq2
  iapply (wp_then c)
  iapply (part3 m K c) $$ He HS Hq1 Hq2 HT4 Ha2 Hs6 HT5 Ha5 Hs7 HW2 HW3 HB
  iintro HS HF4 HF5 HW2 HW3 HB Hq3 Hq4 Hq5
  iapply (wp_then c)
  iapply (part4 m K c) $$ He HS Hq3 Hq4 Hq5
  iintro HS
  iapply (wp_then c)
  iapply (part5 m K c) $$ He HS HW2 HW3 HB
  iintro HS HW2 HW3 HB Hq7 Hq8
  iapply (wp_then c)
  iapply (part6 m K c) $$ He HS Hq7 Hq8 HW2 HW3 HB
  iintro HS HW2 HW3 HB Hq9 Hq10 Hq11
  iapply (wp_then c)
  iapply (part7 m K c) $$ He HS Hq9 Hq10 Hq11
  iintro HS
  iapply (wp_then c)
  iapply (part8 m K c) $$ He HS HR
  iintro HS HR
  dsimp only
  iapply (wp_then c)
  iapply (part9 m K c) $$ He HS HF4 HF5 HB
  iintro HS HW4 HW5 HB Hq13 Hq14
  dsimp only
  iapply (wp_then c)
  iapply (part10 m K c) $$ He HS Hq13 Hq14 HT6 Ha3 Hs8 HT7 Ha6 Hs9
  iintro HS HF6 HF7
  iapply (wp_then c)
  iapply (part11 m K c) $$ He HS HR
  iintro HS HR
  iapply (wp_then c)
  iapply (part12 m K c) $$ He HS HW4 HW5 HB
  iintro HS HW4 HW5 HB Hq16 Hq17
  iapply (wp_then c)
  iapply (part13 m K c) $$ He HS HR Hq16 Hq17
  iintro HS HR
  iapply (wp_then c)
  iapply (part14 m K c) $$ He HS HR HW4 HW5 HB
  iintro HS HR HW4 HW5 HB
  dsimp only
  iapply (wp_then c)
  iapply (part15 m K c) $$ He HS HB
  iintro HS HB Hq20
  iapply (wp_then c)
  iapply (part16 m K c) $$ He HS HR Hq20
  iintro HS HR
  iapply (wp_then c)
  iapply (part17 m K c) $$ He HS HR HW4 HW5 HB
  iintro HS HR HW4 HW5 HB Hq21 Hq22 Hq23
  iapply (wp_then c)
  iapply (part18 m K c) $$ He HS Hq21 Hq22 Hq23
  iintro HS
  iapply (wp_then c)
  iapply (part19 m K c) $$ He HS HR
  iintro HS HR
  iapply (wp_then c)
  iapply (part20 m K c) $$ He HS HR HF6 HF7 HB HL HG
  iintro HS HR HW6 HW7 HB HL HG
  iapply (wp_then c)
  iapply (part21 m K c) $$ He HS HR HW6
  iintro HS HR HW6
  iapply (wp_then c)
  iapply (part22 m K c) $$ He HS HR HW7 HB HL HG
  iintro HS HR HW7 HB HL HG
  iapply (wp_then c)
  iapply (part23 m K c) $$ He HS HR HW6 HW7 HB HL HG
  iintro HS HR HW6 HW7 HB HL HG
  iapply (wp_then c)
  iapply (part24 m K c) $$ He HS HR HG
  iintro HS HR HG
  iapply (wp_then c)
  iapply (part25 m K c) $$ He HR HW6 HW7 HB HL HG
  iintro HR HW6 HW7 HB HL HG
  ihave HL := (late_split m c).1 $$ HL
  icases HL with ⟨Hq24, Hq25, Hq26, HL⟩
  iapply (wp_then c)
  iapply (part26 m K c) $$ He HS Hq24 Hq25 Hq26
  iintro HS
  iapply (wp_then c)
  iapply (part27 m K c) $$ He HS HR
  iintro HS HR
  dsimp only
  iapply (wp_then c)
  iapply (part28 m K c) $$ He HS HA HG HX HY HT1
  iintro HK HG HW1
  iapply (wp_then c)
  iapply (part29 m K c) $$ He HK
  iintro HK
  iapply (wp_then c)
  iapply (part30 m K c) $$ He HK
  iintro HK
  iapply (wp_then c)
  iapply (part31 m K c) $$ He HK
  iintro HK
  iapply (wp_then c)
  iapply (part32 m K c) $$ He HK
  iintro HK
  iapply (wp_then c)
  iapply (part33 m K c) $$ He HK
  iintro HK
  iapply (wp_then c)
  iapply (part34 m K c) $$ He HK
  iintro HK
  simp only [Prog.bind_op, Prog.bind_ret]
  iapply (step_back m K c 25 (by decide) _ _ _ rfl) $$ He HK
  iintro HK
  iapply (step_back m K c 26 (by decide) _ _ _ rfl) $$ He HK
  iintro HK
  iapply (wp_done c rfl)
  iapply Hk
  isplitl [HK]; · iexact HK
  isplitl [HR]; · iexact HR
  isplitl [HW0 HW1 HW2 HW3 HW4 HW5 HW6 HW7]
  · isplitl [HW0]; · iexact HW0
    isplitl [HW1]; · iexact HW1
    isplitl [HW2]; · iexact HW2
    isplitl [HW3]; · iexact HW3
    isplitl [HW4]; · iexact HW4
    isplitl [HW5]; · iexact HW5
    isplitl [HW6]; · iexact HW6
    iexact HW7
  isplitl [HL]; · iexact HL
  isplitl [HG]; · iexact HG
  iexact HZ

end Parts

end Cert.Exchange

end
-- ==== Proof.Deal.lean ====
/-
The launch's ghost state: the cells opened, their duties dealt to the devices that pay them, and the credit given.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A family over a device's semaphores, group by group -/

/-- A family of `a + b` members is its first `a` and its last `b`. -/
theorem bigSep_fin_add {a b : ℕ} (Φ : Fin (a + b) → sProp 𝕄) :
    bigSep Finset.univ Φ = iprop((bigSep Finset.univ fun i : Fin a => Φ (Fin.castAdd b i)) ∗ bigSep Finset.univ fun i : Fin b => Φ (Fin.natAdd a i)) := by
  rw [bigSep_univ_equiv finSumFinEquiv, bigSep_univ_sum]
  simp only [finSumFinEquiv_apply_left, finSumFinEquiv_apply_right]
  rfl

/-- The semaphores of the two arrays no transfer uses. -/
def idleA (i : Fin 9) : DmaSem sig := (⟨35 + i.val, by have := i.isLt; omega⟩ : Fin 80)
/-- The spare semaphores of the arrivals. -/
def idleB (i : Fin 9) : DmaSem sig := (⟨71 + i.val, by have := i.isLt; omega⟩ : Fin 80)

/-- The eighty semaphores of the copies, by what they serve. -/
theorem dmas_split (Φ : DmaSem sig → sProp 𝕄) :
    bigSep Finset.univ Φ = iprop((bigSep Finset.univ fun i => Φ (locIx i)) ∗ (bigSep Finset.univ fun e => Φ (sendIx e)) ∗ (bigSep Finset.univ fun i => Φ (idleA i))
      ∗ (bigSep Finset.univ fun e => Φ (recvIx e)) ∗ (bigSep Finset.univ fun i => Φ (idleB i))) := by
  refine (bigSep_fin_add (a := 8) (b := 72) Φ).trans (congrArg₂ _ rfl ?_)
  refine (bigSep_fin_add (a := 27) (b := 45) _).trans (congrArg₂ _ rfl ?_)
  refine (bigSep_fin_add (a := 9) (b := 36) _).trans (congrArg₂ _ (bigSep_congr fun i _ => congrArg Φ (Fin.ext ?_)) ?_)
  · show 8 + (27 + i.val) = 35 + i.val
    omega
  refine (bigSep_fin_add (a := 27) (b := 9) _).trans (congrArg₂ _ (bigSep_congr fun i _ => congrArg Φ (Fin.ext ?_)) (bigSep_congr fun i _ => congrArg Φ (Fin.ext ?_)))
  · show 8 + (27 + (9 + i.val)) = 44 + i.val
    omega
  · show 8 + (27 + (9 + (27 + i.val))) = 71 + i.val
    omega

/-- All the semaphores: the barrier's and the copies'. -/
theorem sems_split (Φ : SemLoc sig → sProp 𝕄) :
    bigSep Finset.univ Φ = iprop(Φ (.reg barS) ∗ bigSep Finset.univ fun j : DmaSem sig => Φ (.dma j)) := by
  rw [bigSep_univ_equiv (SemLoc.equivSum sig).symm, bigSep_univ_sum]
  refine congrArg₂ _ ?_ rfl
  exact bigSep_univ_eq_bigSepL [barS] (by decide) (by decide) _

/-! ## The semaphores at launch -/

/-- The kernel's own semaphores: the eighty of its transfers. -/
abbrev osem : Fin 80 → SemLoc sig := fun j => .dma j
/-- The kernel's own semaphores are just these. -/
theorem ownSemFacts : Pipeline.OwnSemFacts cfg0.spec osem :=
  ⟨by decide, fun a b h => by injection h, fun _ w => w.elim0⟩

/-- Their counters, at zero. -/
abbrev ownSems (c : Dev nD) : sProp 𝕄 := Pipeline.ownSems0 (Ix := Unit) (Name := ℕ) (U := UU) (Lvl := ℕ) (Val := Elt F) (τ := τ) osem c

/-- The barrier's semaphore is the one that outlives the kernel. -/
theorem outer_sems (c : Dev nD) : (unscopedSems0 c : sProp 𝕄) = semVal (barCell c) 0 := by
  unfold unscopedSems0; rw [bigSep_eq_bigSepL_of_eq [SemLoc.reg barS] (by decide) (by decide)]; rfl

/-- Every semaphore's counter, at zero. -/
theorem all_sems (c : Dev nD) : iprop(ownSems c ∗ unscopedSems0 c) ⊢ (bigSep Finset.univ fun sm : SemLoc sig => semVal (kcell (c, sm)) 0 : sProp 𝕄) := by
  rw [outer_sems, sems_split]
  unfold ownSems Pipeline.ownSems0
  iintro ⟨HD, HB⟩
  isplitl [HB]; · iexact HB
  iexact HD

/-- Cells of different devices or semaphores differ. -/
theorem kcell_injective : Function.Injective kcell := by
  rintro ⟨c, k⟩ ⟨c', k'⟩ h
  obtain rfl : c = c' := congrArg (fun g : GSem nD τ sig => g.1.1) h
  obtain rfl : k = k' := congrArg Prod.snd h
  rfl

/-- Every cell. -/
def allCells : Finset (GSem nD τ sig) := Finset.univ.map ⟨kcell, kcell_injective⟩

/-- A token for every cell and every one of three duties; those that are no duty are let go. -/
abbrev tokOf (x : (Dev nD × SemLoc sig) × Fin 3) : GSem nD τ sig × ℕ × Fin 3 := (kcell x.1, 0, x.2)
/-- Different tokens have different names. -/
theorem tokOf_injective : Function.Injective tokOf := by
  rintro ⟨x, d⟩ ⟨x', d'⟩ h
  obtain rfl : x = x' := kcell_injective (congrArg Prod.fst h)
  obtain rfl : d = d' := congrArg (fun y : GSem nD τ sig × ℕ × Fin 3 => y.2.2) h
  rfl
/-- Every token. -/
def allToks : Finset (GSem nD τ sig × ℕ × Fin 3) := Finset.univ.map ⟨tokOf, tokOf_injective⟩

/-- The resource at launch. -/
def u₀ : UU := (initOf (Pipeline.cells cfgs cellOf_inj) (Pipeline.launchToks cfgs cellOf_inj), initOf allCells allToks)

/-- The duties of device `c`'s own cells. -/
def ownToks (c : Dev nD) : sProp 𝕄 :=
  iprop((bigSep Finset.univ fun d : Fin 3 => dutyTok ER (barCell c) 0 d) ∗ (bigSep Finset.univ fun i : Fin 8 => dutyTok ER (locCell c i) 0 0)
    ∗ (bigSep Finset.univ fun e : Fin 27 => dutyTok ER (sendCell c e) 0 0) ∗ (bigSep Finset.univ fun e : Fin 27 => dutyTok ER (recvCell c e) 0 0))

/-- Of the tokens of a device's cells, those that are duties. -/
theorem minted_toks (c : Dev nD) :
    (bigSep Finset.univ fun sm : SemLoc sig => bigSep Finset.univ fun d : Fin 3 => (dutyTok ER (kcell (c, sm)) 0 d : sProp 𝕄)) ⊢ ownToks (F := F) c := by
  rw [sems_split]
  unfold ownToks
  iintro ⟨HB, HD⟩
  isplitl [HB]; · iexact HB
  ihave HD := (show (bigSep Finset.univ fun j : DmaSem sig => bigSep Finset.univ fun d : Fin 3 => (dutyTok ER (kcell (c, .dma j)) 0 d : sProp 𝕄))
    ⊢ bigSep Finset.univ fun j : DmaSem sig => dutyTok ER (kcell (c, .dma j)) 0 0 from
      bigSep_mono fun j _ => bigSep_elim (Finset.mem_univ (0 : Fin 3))) $$ HD
  ihave HD := (Entails.of_eq (dmas_split fun j => (dutyTok ER (kcell (c, .dma j)) 0 0 : sProp 𝕄))) $$ HD
  icases HD with ⟨H1, H2, -, H3, -⟩
  isplitl [H1]; · iexact H1
  isplitl [H2]; · iexact H2
  iexact H3

/-- What the launch deals device `c`. -/
def G (c : Dev nD) : sProp 𝕄 :=
  iprop((bigSep Finset.univ fun sm : SemLoc sig => roundState ER (Rd m) (kcell (c, sm)) 0)
    ∗ (bigSep Finset.univ fun sm : SemLoc sig => iprop(atPos ER (kcell (c, sm)) 0 ∅ 0 ∗ reached ER (kcell (c, sm)) 0)) ∗ ownToks c)

/-- The launch's resource, dealt out by device. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun sm : SemLoc sig => Φ (kcell (c, sm)) := by
    unfold allCells; rw [bigSep_map, bigSep_univ_prod]; rfl
  have hT : bigSep allToks (fun x => (dutyTok ER x.1 x.2.1 x.2.2 : sProp 𝕄)) ⊢ bigSep Finset.univ fun c : Dev nD => ownToks (F := F) c := by
    unfold allToks
    rw [bigSep_map, bigSep_univ_prod, bigSep_univ_prod]
    exact bigSep_mono fun c _ => minted_toks c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- One device's cells get their invariants. -/
theorem core_alloc (c : Dev nD) :
    iprop(ownSems c ∗ unscopedSems0 c ∗ G m c)
      ⊢ |={Set.univ}=> iprop((bigSep Finset.univ fun sm : SemLoc sig => iprop(∃ κ : ℕ, cellInv ER (Rd m) κ (kcell (c, sm))))
          ∗ (bigSep Finset.univ fun sm : SemLoc sig => iprop(atPos ER (kcell (c, sm)) 0 ∅ 0 ∗ reached ER (kcell (c, sm)) 0)) ∗ ownToks c) := by
  unfold G
  iintro ⟨Hos, Hus, Hst, Hat, Htok⟩
  ihave Hv := (all_sems (F := F) c) $$ [Hos Hus]
  · isplitl [Hos] <;> iassumption
  imod (show iprop((bigSep Finset.univ fun sm : SemLoc sig => semVal (kcell (c, sm)) 0) ∗ bigSep Finset.univ fun sm : SemLoc sig => roundState ER (Rd m) (kcell (c, sm)) 0)
      ⊢ (|={Set.univ}=> bigSep Finset.univ fun sm : SemLoc sig => iprop(∃ κ : ℕ, cellInv ER (Rd m) κ (kcell (c, sm))) : sProp 𝕄) from by
        rw [← bigSep_sep']
        exact (bigSep_mono fun sm _ => (Rounds.body_intro ER (Rd m) (kcell (c, sm))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties dealt to those who pay them -/

/-- Peers as a permutation of the devices. -/
def peerE (k : Fin 3) : Dev nD ≃ Dev nD := ⟨peer k, peer k, peer_peer k, peer_peer k⟩

/-- One member of each device's family goes to a peer. -/
theorem around {ι : Type} [Fintype ι] (p : ι → Fin 3) (Φ : Dev nD → ι → sProp 𝕄) :
    (bigSep Finset.univ fun c : Dev nD => bigSep Finset.univ fun i => Φ c i) = bigSep Finset.univ fun c : Dev nD => bigSep Finset.univ fun i => Φ (peer (p i) c) i := by
  rw [bigSep_univ_comm, bigSep_univ_comm (fun (c : Dev nD) i => Φ (peer (p i) c) i)]
  refine bigSep_congr fun i _ => ?_
  exact bigSep_univ_equiv (peerE (p i)) (fun c => Φ c i)

/-- The duties device `c` pays. -/
def payToks (c : Dev nD) : sProp 𝕄 :=
  iprop((bigSep Finset.univ fun k : Fin 3 => dutyTok ER (barCell (peer k c)) 0 k) ∗ (bigSep Finset.univ fun i : Fin 8 => dutyTok ER (locCell c i) 0 0)
    ∗ bigSep Finset.univ (sendToks (F := F) c))

/-- Every duty goes to the device that pays it. -/
theorem toks_around : (bigSep Finset.univ fun c : Dev nD => ownToks (F := F) c) ⊢ bigSep Finset.univ fun c : Dev nD => payToks (F := F) c := by
  unfold ownToks payToks sendToks
  simp only [bigSep_sep']
  rw [around (fun k : Fin 3 => k) (fun c k => (dutyTok ER (barCell c) 0 k : sProp 𝕄)),
    around (fun e : Fin 27 => kOf e.val) (fun c e => (dutyTok ER (recvCell c e) 0 0 : sProp 𝕄))]

/-- What stays with device `c`. -/
def mine (c : Dev nD) : sProp 𝕄 := iprop((bigSep Finset.univ fun sm : SemLoc sig => atPos ER (kcell (c, sm)) 0 ∅ 0) ∗ payToks c)
/-- What a device has once the duties are dealt. -/
def G' (c : Dev nD) : sProp 𝕄 := iprop(∃ K, recs m K ∗ mine c)

/-- The devices' invariants are known to all, and each has the duties it pays. -/
theorem regroup :
    (bigSep Finset.univ fun c : Dev nD => iprop((bigSep Finset.univ fun sm : SemLoc sig => iprop(∃ κ : ℕ, cellInv ER (Rd m) κ (kcell (c, sm))))
          ∗ (bigSep Finset.univ fun sm : SemLoc sig => iprop(atPos ER (kcell (c, sm)) 0 ∅ 0 ∗ reached ER (kcell (c, sm)) 0)) ∗ ownToks c) : sProp 𝕄)
      ⊢ bigSep Finset.univ (G' m) := by
  rw [bigSep_sep', bigSep_sep', ← bigSep_univ_prod (fun ck : Dev nD × SemLoc sig => iprop(∃ κ : ℕ, cellInv ER (Rd m) κ (kcell ck))),
    bigSep_congr (s := Finset.univ) (fun (c : Dev nD) _ => bigSep_sep' Finset.univ (fun sm : SemLoc sig => (atPos ER (kcell (c, sm)) 0 ∅ 0 : sProp 𝕄)) (fun sm => reached ER (kcell (c, sm)) 0)),
    bigSep_sep', ← bigSep_univ_prod (fun ck : Dev nD × SemLoc sig => (reached ER (kcell ck) 0 : sProp 𝕄))]
  iintro ⟨HI, ⟨Hat, #HR⟩, Htok⟩
  ihave HK := (BI.bigSep_exists_pi Finset.univ (fun (ck : Dev nD × SemLoc sig) (κ : ℕ) => (cellInv ER (Rd m) κ (kcell ck) : sProp 𝕄))) $$ HI
  icases HK with ⟨%K, #HI⟩
  ihave Htk := (toks_around (F := F)) $$ Htok
  iapply (bigSep_with_persistent (R := recs m K) (Φ := mine) fun c _ => show iprop(recs m K ∗ mine c) ⊢ G' m c from by
    unfold G'; iintro H; iexists K; iexact H)
  isplitr
  · unfold recs; rw [bigSep_sep']
    isplitl; · iexact HI
    iexact HR
  · unfold mine; rw [bigSep_sep']
    isplitl [Hat]; · iexact Hat
    iexact Htk

/-- The whole deal, over all devices at once. -/
theorem glob : (bigSep Finset.univ fun c => iprop(ownSems c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credit the launch gives -/

/-- A tally, read at a cell. -/
theorem tally_eq (g g' : GSem nD τ sig) (n : ℕ) : (tallyAt g () n : CellTallies nD τ sig Unit) g' () = if g' = g then n else 0 := by
  rw [tallyAt_apply]; simp only [and_true]

/-- A sum of tallies, read at a cell. -/
theorem sum_tally {ι : Type} (s : Finset ι) (f : ι → CellTallies nD τ sig Unit) (g : GSem nD τ sig) : (∑ i ∈ s, f i) g () = ∑ i ∈ s, f i g () := by
  rw [Finset.sum_apply, Finsupp.finset_sum_apply]

/-- The barrier cells of different devices differ. -/
theorem bar_eq_iff {a b : Dev nD} : barCell a = barCell b ↔ a = b :=
  ⟨fun h => congrArg (fun g : GSem nD τ sig => g.1.1) h, fun h => h ▸ rfl⟩
/-- Arrivals' cells differ by device and number. -/
theorem recv_eq_iff {a b : Dev nD} {e e' : Fin 27} : recvCell a e = recvCell b e' ↔ a = b ∧ e = e' := by
  constructor
  · intro h
    refine ⟨congrArg (fun g : GSem nD τ sig => g.1.1) h, ?_⟩
    have h2 : SemLoc.dma (recvIx e) = SemLoc.dma (recvIx e') := congrArg Prod.snd h
    injection h2 with h3
    have h4 : 44 + e.val = 44 + e'.val := congrArg Fin.val h3
    exact Fin.ext (by omega)
  · rintro ⟨rfl, rfl⟩; rfl
/-- An arrival's cell is not a barrier's. -/
theorem recv_ne_bar (a b : Dev nD) (e : Fin 27) : barCell b ≠ recvCell a e := fun h => by
  have h2 : SemLoc.reg barS = SemLoc.dma (recvIx e) := congrArg Prod.snd h
  cases h2

/-- Being a peer is mutual. -/
theorem peer_swap (k : Fin 3) (c d : Dev nD) : c = peer k d ↔ d = peer k c :=
  ⟨fun h => by rw [h, peer_peer], fun h => by rw [h, peer_peer]⟩

/-- What a device owes a barrier at launch. -/
theorem owed_bar (d c : Dev nD) : oweB d 0 (barCell c) () = ∑ k : Fin 3, if d = peer k c then 1 else 0 := by
  unfold oweB
  have h0 : owe d 0 (barCell c) () = 0 := by
    by_contra h
    obtain ⟨e, _, h⟩ := owe_pos (Nat.pos_of_ne_zero h)
    exact recv_ne_bar _ _ _ h
  rw [Pi.add_apply, Finsupp.add_apply, h0, Nat.zero_add, sum_tally, Finset.filter_true_of_mem fun _ _ => Nat.zero_le _]
  refine Finset.sum_congr rfl fun k _ => ?_
  rw [tally_eq]
  exact if_congr (bar_eq_iff.trans (peer_swap k c d)) rfl rfl

/-- What a device owes an arrival at launch. -/
theorem owed_recv (d c : Dev nD) (e : Fin 27) : oweB d 0 (recvCell c e) () = if d = tgt c e.val then N else 0 := by
  unfold oweB owe
  rw [Pi.add_apply, Finsupp.add_apply, sum_tally, sum_tally, Finset.filter_true_of_mem fun _ _ => Nat.zero_le _]
  rw [Finset.sum_eq_zero (s := Finset.univ.filter _) (fun k _ => by rw [tally_eq]; exact if_neg fun h => recv_ne_bar _ _ _ h.symm), Nat.add_zero]
  rw [Finset.sum_eq_single e]
  · rw [tally_eq]
    refine if_congr (recv_eq_iff.trans ⟨fun h => (peer_swap _ _ _).mp h.1, fun h => ⟨(peer_swap _ _ _).mpr h, rfl⟩⟩) rfl rfl
  · intro e' _ hne
    rw [tally_eq]; exact if_neg fun h => hne (recv_eq_iff.mp h).2.symm
  · intro h; exact absurd (Finset.mem_univ e) h

/-- All that a device owes at launch. -/
abbrev O₀ (c : Dev nD) : CellTallies nD τ sig Unit := oweB c 0

/-- The credit for the barrier's wait, from what is owed to it. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  simp only [Finset.sum_ite_eq', Finset.mem_univ, if_true]
  rfl

/-- The credit for an arrival's wait, from what is owed to it. -/
theorem launch_recv (c : Dev nD) (e : Fin 27) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun d _ => owed_recv d c e]
  simp only [Finset.sum_ite_eq', Finset.mem_univ, if_true]

/-- All the credits of a device. -/
theorem creds (c : Dev nD) :
    (Pipeline.launchCred O₀ c : sProp 𝕄) ⊢ iprop(cred (tallyAt (barCell c) () 3) ∗ bigSep Finset.univ fun e : Fin 27 => cred (tallyAt (recvCell c e) () N)) := by
  unfold Pipeline.launchCred
  rw [sems_split, launch_bar, dmas_split]
  iintro ⟨HB, -, -, -, HR, -⟩
  isplitl [HB]; · iexact HB
  ihave HR := (Entails.of_eq (bigSep_congr (s := Finset.univ) fun (e : Fin 27) _ => congrArg (fun x => (cred x : sProp 𝕄)) (launch_recv c e))) $$ HR
  iexact HR

end Cert.Exchange

end
-- ==== Proof.Launch.lean ====
/-
The launch: what each device enters the kernel's body with and leaves it with, and the run of the whole program.
-/
module

public import proofs.«01_k».proof.Proof.Deal
public import Idealize.ShloMosaic.Lib.Ring
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The buffers, slot by slot -/

/-- Different send slots share nothing. -/
theorem bset_disjoint (c : Dev nD) (s s' : Fin 12) (h : s ≠ s') : Disjoint (bset c s.val) (bset c s'.val) :=
  Finset.disjoint_filter.mpr fun _ _ h1 h2 => h (Fin.ext (h1.symm.trans h2))
/-- The send slots are the whole buffer. -/
theorem bset_cover (c : Dev nD) : (Finset.univ : Finset (Fin 12)).biUnion (fun s => bset c s.val) = Finset.univ :=
  Finset.eq_univ_of_forall fun i => Finset.mem_biUnion.mpr
    ⟨((show S12x16x512.Idx from i) 0 : Fin 12), Finset.mem_univ _, Finset.mem_filter.mpr ⟨Finset.mem_univ _, rfl⟩⟩
/-- Different receive slots share nothing. -/
theorem cset_disjoint (c : Dev nD) (s s' : Fin 36) (h : s ≠ s') : Disjoint (cset c s.val) (cset c s'.val) :=
  Finset.disjoint_filter.mpr fun _ _ h1 h2 => h (Fin.ext (h1.symm.trans h2))
/-- The receive slots are the whole buffer. -/
theorem cset_cover (c : Dev nD) : (Finset.univ : Finset (Fin 36)).biUnion (fun s => cset c s.val) = Finset.univ :=
  Finset.eq_univ_of_forall fun i => Finset.mem_biUnion.mpr
    ⟨((show S36x16x512.Idx from i) 0 : Fin 36), Finset.mem_univ _, Finset.mem_filter.mpr ⟨Finset.mem_univ _, rfl⟩⟩

section Buffers
variable (c : Dev nD)

/-- The send buffer, cut into slots. -/
theorem send_open : anyPts (F := F) c cc0_scratch0 ⊢ Sb (F := F) c 0 := by
  unfold Sb
  rw [fromSep_zero]
  iintro ⟨%f, H⟩
  ihave H := (Entails.of_eq (Ring.pointsTo_blocks (fun s : Fin 12 => bset c s.val) (bset_disjoint c) (bset_cover c) f)) $$ H
  iapply (show (bigSep Finset.univ fun s : Fin 12 => (sbLoc c ↦[bset c s.val]{fullShare} f : sProp 𝕄))
    ⊢ bigSep Finset.univ fun s : Fin 12 => iprop(∃ f : Buf (Elt F) (sbLoc c), sbLoc c ↦[bset c s.val]{fullShare} f) from
      bigSep_mono fun s _ => show (sbLoc c ↦[bset c s.val]{fullShare} f : sProp 𝕄) ⊢ iprop(∃ f : Buf (Elt F) (sbLoc c), sbLoc c ↦[bset c s.val]{fullShare} f) from by
        iintro H; iexists f; iexact H)
  iexact H

/-- The slots of the receive buffer that no transfer writes. -/
def spare : sProp 𝕄 := bigSep Finset.univ fun i : Fin 9 => cmFree (F := F) c (27 + i.val)

/-- The receive slots: those of the transfers, and the spare ones. -/
theorem recv_pieces : (bigSep Finset.univ fun s : Fin 36 => cmFree (F := F) c s.val)
    = iprop((bigSep Finset.univ fun e : Fin 27 => cmFree (F := F) c e.val) ∗ spare c) :=
  bigSep_fin_add (a := 27) (b := 9) _

/-- The slots of the transfers, by peer. -/
theorem own_slots : (bigSep Finset.univ fun e : Fin 27 => cmFree (F := F) c e.val) = bigSep Finset.univ fun k : Fin 3 => barPay (F := F) c k := by
  rw [bigSep_univ_equiv eEquiv, bigSep_univ_prod, bigSep_univ_comm]
  refine bigSep_congr fun k _ => bigSep_congr fun j _ => ?_
  rw [eEquiv_apply]

/-- The receive buffer, cut into what goes to each peer and the spare slots. -/
theorem recv_open : anyPts (F := F) c cc0_scratch1 ⊢ iprop((bigSep Finset.univ fun k : Fin 3 => barPay (F := F) c k) ∗ spare c) := by
  rw [← own_slots, ← recv_pieces]
  unfold cmFree
  iintro ⟨%f, H⟩
  ihave H := (Entails.of_eq (Ring.pointsTo_blocks (fun s : Fin 36 => cset c s.val) (cset_disjoint c) (cset_cover c) f)) $$ H
  iapply (show (bigSep Finset.univ fun s : Fin 36 => (cmLoc c ↦[cset c s.val]{fullShare} f : sProp 𝕄))
    ⊢ bigSep Finset.univ fun s : Fin 36 => iprop(∃ f : Buf (Elt F) (cmLoc c), cmLoc c ↦[cset c s.val]{fullShare} f) from
      bigSep_mono fun s _ => show (cmLoc c ↦[cset c s.val]{fullShare} f : sProp 𝕄) ⊢ iprop(∃ f : Buf (Elt F) (cmLoc c), cmLoc c ↦[cset c s.val]{fullShare} f) from by
        iintro H; iexists f; iexact H)
  iexact H

/-- The receive slots put together again. -/
theorem recv_close : iprop((bigSep Finset.univ fun e : Fin 27 => cmPts m c e.val) ∗ spare c) ⊢ anyPts (F := F) c cc0_scratch1 := by
  refine (sep_mono_left (bigSep_mono fun (e : Fin 27) _ => show cmPts m c e.val ⊢ cmFree c e.val from by
    unfold cmPts cmFree; iintro H; iexists _; iexact H)).trans ?_
  rw [← recv_pieces]
  unfold cmFree
  exact Ring.pointsTo_blocks_join_exists (fun s : Fin 36 => cset c s.val) (cset_disjoint c) (cset_cover c) (cmV m c)

/-- A family of three. -/
theorem bigSep_fin3 (Φ : Fin 3 → sProp 𝕄) : bigSep Finset.univ Φ = iprop(Φ 0 ∗ Φ 1 ∗ Φ 2) := bigSep_univ_eq_bigSepL [0, 1, 2] (by decide) (by decide) Φ
/-- A family of eight. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The early slots of the send buffer, from the thirds the transfers gave back. -/
theorem send_early : (bigSep Finset.univ fun e : Fin 24 => srcPts m c e.val) ⊢ bigSep Finset.univ fun s : Fin 8 => (sbLoc c ↦[bset c s.val]{fullShare} sbV m c : sProp 𝕄) := by
  rw [bigSep_univ_equiv (finProdFinEquiv (m := 8) (n := 3)) (fun e : Fin 24 => srcPts m c e.val), bigSep_univ_prod]
  refine bigSep_mono fun s _ => ?_
  rw [bigSep_fin3]
  refine Entails.trans (Entails.of_eq ?_) (src_split m c s).2
  have e (k : Fin 3) : ((finProdFinEquiv (m := 8) (n := 3)) (s, k)).val = 3 * s.val + k.val := by
    show k.val + 3 * s.val = 3 * s.val + k.val; omega
  rw [e, e, e]
  rfl

/-- The send slots put together again, their shares joined. -/
theorem send_close : iprop((bigSep Finset.univ fun e : Fin 27 => srcPts m c e.val) ∗ (sbLoc c ↦[bset c (8 + c.val)]{fullShare} sbV m c))
    ⊢ anyPts (F := F) c cc0_scratch0 := by
  rw [show (bigSep Finset.univ fun e : Fin 27 => srcPts m c e.val)
    = iprop((bigSep Finset.univ fun e : Fin 24 => srcPts m c e.val) ∗ bigSep Finset.univ fun i : Fin 3 => srcPts m c (24 + i.val)) from
      bigSep_fin_add (a := 24) (b := 3) _, bigSep_fin3]
  iintro ⟨⟨HE, H24, H25, H26⟩, HO⟩
  ihave HE := (send_early m c) $$ HE
  ihave HL := (late_split m c).2 $$ [H24 H25 H26 HO]
  · isplitl [H24]; · iexact H24
    isplitl [H25]; · iexact H25
    isplitl [H26]; · iexact H26
    iexact HO
  ihave HL := (Entails.of_eq (show Sl m c 4 = bigSep Finset.univ fun i : Fin 4 => (sbLoc c ↦[bset c (8 + i.val)]{fullShare} sbV m c : sProp 𝕄) from upSep_all _)) $$ HL
  iexists sbV m c
  iapply (Entails.of_eq (Ring.pointsTo_blocks (Val := Elt F) (fun s : Fin 12 => bset c s.val) (bset_disjoint c) (bset_cover c) (sbV m c)).symm)
  iapply (Entails.of_eq (bigSep_fin_add (a := 8) (b := 4) fun s : Fin 12 => (sbLoc c ↦[bset c s.val]{fullShare} sbV m c : sProp 𝕄)).symm)
  isplitl [HE]; · iexact HE
  iexact HL

end Buffers

/-! ## The state around the body -/

section Body
variable (c : Dev nD)

/-- The arguments at what they held. -/
def Args : sProp 𝕄 :=
  iprop(argPts m c main_arg0 ∗ argPts m c main_arg1 ∗ argPts m c main_arg2 ∗ argPts m c main_arg3 ∗ argPts m c main_arg4 ∗ argPts m c main_arg5 ∗ argPts m c main_arg6)

/-- What device `c` enters the kernel with, besides its buffers of its own. -/
def ready : sProp 𝕄 :=
  iprop(G' m c ∗ (cred (tallyAt (barCell c) () 3) ∗ bigSep Finset.univ fun e : Fin 27 => cred (tallyAt (recvCell c e) () N)) ∗ levAts L lv
    ∗ Args m c ∗ argPts m c main_v1)
/-- And leaves it with. -/
def done : sProp 𝕄 := iprop(unscopedSems0 c ∗ Args m c ∗ ((c : Thread nD τ).loc main_v1 ↦{fullShare} outV m c))

/-- The kernel's own buffers. -/
abbrev ownBufs : sProp 𝕄 := Pipeline.scopedRest (Ix := Unit) (Name := ℕ) (U := UU) (Lvl := ℕ) (Val := Elt F) cfg0.spec c

/-- The unused semaphores, closed, and the unused slots: held aside through the body. -/
def aside : sProp 𝕄 :=
  iprop((bigSep Finset.univ fun i => semVal ((c : Thread nD τ), .dma (idleA i)) 0) ∗ (bigSep Finset.univ fun i => semVal ((c : Thread nD τ), .dma (idleB i)) 0) ∗ spare c)

/-- The spare semaphores, closed at zero. -/
theorem close_idle (K : Names) (j : Fin 9 → DmaSem sig) (h : ∀ i, ¬ ((j i).val < 35 ∨ (44 ≤ (j i).val ∧ (j i).val < 71))) :
    iprop(recs m K ∗ bigSep Finset.univ fun i => atPos ER ((c : Thread nD τ), .dma (j i)) 0 ∅ 0)
      ⊢ |={Set.univ}=> (bigSep Finset.univ fun i => semVal ((c : Thread nD τ), .dma (j i)) 0 : sProp 𝕄) := by
  refine (bigSep_with_persistent (Ψ := fun i => iprop(|={Set.univ}=> (semVal ((c : Thread nD τ), .dma (j i)) 0 : sProp 𝕄))) fun i _ => ?_).trans (bigSep_fupd _ _)
  iintro ⟨#HR, HA⟩
  iapply (Rounds.cell_close ER (Rd m) (Set.mem_univ (K (c, .dma (j i)))) (fun h => h) (R := 0) (duties_none m c (j i) (h i)))
  isplitr; · iapply (recs_inv m K c _); iexact HR
  iexact HA

/-- What a device has at launch is what the body starts from. -/
theorem body_enter : iprop(ready m c ∗ ownBufs c ∗ ∃ W, owes (c : Thread nD τ) (O₀ c) W)
    ⊢ |={Set.univ}=> iprop(∃ K, env m K ∗ Start m c ∗ aside c) := by
  unfold ownBufs
  rw [scopedRest0_eq]
  unfold ready G' mine payToks
  rw [sems_split, dmas_split]
  iintro ⟨⟨⟨%K, #HR, ⟨HaB, HaL, HaS, HaI, HaV, HaJ⟩, HtB, HtL, HtS⟩, ⟨HcB, HcV⟩, #Hlev, HA, HY⟩, ⟨H0, H1, H2, H3, H4, H5, H6, H7, H8, H9, HX⟩, HO⟩
  imod (close_idle m c K idleA (fun i => by show ¬ (35 + i.val < 35 ∨ (44 ≤ 35 + i.val ∧ 35 + i.val < 71)); omega)) $$ [HaI] with HzI
  · isplitr; · iexact HR
    iexact HaI
  imod (close_idle m c K idleB (fun i => by show ¬ (71 + i.val < 35 ∨ (44 ≤ 71 + i.val ∧ 71 + i.val < 71)); omega)) $$ [HaJ] with HzJ
  · isplitr; · iexact HR
    iexact HaJ
  imodintro
  ihave H0 := (send_open c) $$ H0
  ihave H1 := (recv_open c) $$ H1
  icases H1 with ⟨HP, Hsp⟩
  iexists K
  isplitr
  · unfold env
    isplitl; · iexact HR
    iexact Hlev
  isplitr [HzI HzJ Hsp]
  · unfold Start Sig Sl Stg Rcv Args
    rw [fromSep_zero, fromSep_zero, upSep_zero, upSep_zero, bigSep_sep', bigSep_sep']
    isplitl [HO HtB HP]
    · isplitl [HO]; · iexact HO
      isplitl [HtB] <;> iassumption
    isplitl [HtL HaL]
    · iapply (Entails.of_eq (bigSep_fin8 (Cold (F := F) c)))
      unfold Cold
      rw [bigSep_sep']
      isplitl [HtL] <;> iassumption
    isplitl [HA]; · iexact HA
    isplitl [H3 H4 H5 H6 H7 H8 H9]
    · isplitl [H3]; · iexact H3
      isplitl [H4]; · iexact H4
      isplitl [H5]; · iexact H5
      isplitl [H6]; · iexact H6
      isplitl [H7]; · iexact H7
      isplitl [H8]; · iexact H8
      iexact H9
    isplitl [HcB HaB]
    · isplitl [HcB] <;> iassumption
    isplitl [HtS]; · iexact HtS
    isplitl [H0]; · iexact H0
    isplitr; · iempintro
    isplitl [H2]
    · icases H2 with ⟨%f, H2⟩
      iexists f
      isplitr; · ipureintro; exact fun i hi => absurd hi (Nat.not_lt_zero _)
      iexact H2
    isplitl [HcV HaV]
    · isplitl
      · isplitl [HcV] <;> iassumption
      iempintro
    isplitl [HaS]; · iexact HaS
    isplitl [HX]; · iexact HX
    iexists _; iexact HY
  · unfold aside
    isplitl [HzI]; · iexact HzI
    isplitl [HzJ] <;> iassumption

/-- What the body ends with is what the launch wants back. -/
theorem body_leave : iprop(Finish m c ∗ aside c) ⊢ iprop((done m c ∗ ownSems c ∗ ownBufs c) ∗ ∃ W, owes (c : Thread nD τ) (0 : CellTallies nD τ sig Unit) W) := by
  unfold ownBufs ownSems Pipeline.ownSems0
  rw [scopedRest0_eq, dmas_split]
  unfold Finish Back Rcv aside done
  rw [fromSep_all, fromSep_all, upSep_all, upSep_all, bigSep_sep', bigSep_sep', outer_sems]
  unfold oweW Stg Args
  rw [owe_end]
  iintro ⟨⟨⟨HO, -, HsP, HsZ⟩, ⟨-, HvP, HvZ⟩, HW, Hown, ⟨%f, -, H2⟩, HzB⟩, HzI, HzJ, Hsp⟩
  ihave HW := (Entails.of_eq (bigSep_fin8 (Win m c)).symm) $$ HW
  unfold Win
  ihave HW := (Entails.of_eq (bigSep_sep' Finset.univ (locPay m c) fun i => semVal (locCell c i) 0)) $$ HW
  icases HW with ⟨HP, HZ⟩
  ihave HP := (Entails.of_eq (bigSep_fin8 (locPay m c))) $$ HP
  dsimp only [locPay]
  unfold cpPts
  icases HP with ⟨⟨H3, Ha0⟩, ⟨HY, HX⟩, ⟨H4, Ha1⟩, ⟨H5, Ha4⟩, ⟨H6, Ha2⟩, ⟨H7, Ha5⟩, ⟨H8, Ha3⟩, H9, Ha6⟩
  ihave H0 := (send_close m c) $$ [HsP Hown]
  · isplitl [HsP] <;> iassumption
  ihave H1 := (recv_close m c) $$ [HvP Hsp]
  · isplitl [HvP] <;> iassumption
  isplitr [HO]
  · isplitl [HzB Ha0 Ha1 Ha2 Ha3 Ha4 Ha5 Ha6 HY]
    · isplitl [HzB]; · iexact HzB
      isplitr [HY]
      · isplitl [Ha0]; · iexact Ha0
        isplitl [Ha1]; · iexact Ha1
        isplitl [Ha2]; · iexact Ha2
        isplitl [Ha3]; · iexact Ha3
        isplitl [Ha4]; · iexact Ha4
        isplitl [Ha5]; · iexact Ha5
        iexact Ha6
      iexact HY
    isplitl [HZ HsZ HzI HvZ HzJ]
    · isplitl [HZ]; · iexact HZ
      isplitl [HsZ]; · iexact HsZ
      isplitl [HzI]; · iexact HzI
      isplitl [HvZ]; · iexact HvZ
      iexact HzJ
    isplitl [H0]; · iexact H0
    isplitl [H1]; · iexact H1
    isplitl [H2]; · iexists f; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact HX
  · iexact HO

end Body

/-! ## The kernel as a region -/

/-- The region's data: what goes in and what comes out. -/
def dats (_ : Fin 1) (c : Dev nD) : Pipeline.Dat τ (Elt F) Unit ℕ UU ℕ cfg0 c where
  A w := (s₀ m ρ).mem ((cfg0.win w).arr.view.loc (c : Thread nD τ))
  after w _ := w.elim0
  Φ t := match t with
    | ⟨0, _⟩ => iprop(ready m c ∗ ownBufs c)
    | ⟨_ + 1, _⟩ => iprop(done m c ∗ ownSems c ∗ ownBufs c)
  q _ := fullShare
  owed t := match t with
    | ⟨0, _⟩ => O₀ c
    | ⟨_ + 1, _⟩ => 0

set_option maxRecDepth 100000 in
/-- The body does what the launch asks of it. -/
theorem body_obligation (c : Dev nD) : Pipeline.BodyObligation (dats (F := F) m ρ 0 c) (defs₀ (F := F)) 𝒱₀ () Set.univ := fun t => by
  rw [fin_N0 t]
  show iprop(iprop(ready m c ∗ ownBufs c) ∗ (dats m ρ 0 c).owesAt () t0_0.castSucc ∗ _)
    ⊢ WP c (onArgs (cc0_body (F := F))) (fun _ => iprop(iprop(done m c ∗ ownSems c ∗ ownBufs c) ∗ (dats m ρ 0 c).owesAt () t0_0.succ ∗ bigSep Finset.univ _))
  unfold Pipeline.Dat.owesAt Pipeline.owesWithin
  rw [show (dats m ρ 0 c).owed t0_0.castSucc = O₀ c from rfl, show (dats m ρ 0 c).owed t0_0.succ = 0 from rfl]
  iintro ⟨⟨HR, HB⟩, ⟨%W, %hW, HO⟩, -⟩
  imod (body_enter m c) $$ [HR HB HO] with ⟨%K, #He, HS, Hz⟩
  · isplitl [HR]; · iexact HR
    isplitl [HB]; · iexact HB
    iexists W; iexact HO
  iapply (body_run m K c) $$ He HS
  iintro HF
  ihave H := (body_leave m c) $$ [HF Hz]
  · isplitl [HF] <;> iassumption
  icases H with ⟨HD, %W', HO⟩
  isplitl [HD]; · iexact HD
  isplitl [HO]
  · iexists W'
    isplitr; · ipureintro; exact fun _ _ => Or.inl trivial
    iexact HO
  rw [Finset.univ_eq_empty, bigSep_empty]
  iempintro

/-- The waits of the region's own copies: there are none. -/
theorem waits (c : Dev nD) : (levAts L lv : sProp 𝕄) ⊢ Pipeline.cellsWaits cfgs (dats m ρ) () 0 c :=
  Pipeline.cellsWaits_intro cfgs (dats m ρ) () 0 c fun w _ _ => w.elim0

/-- What the deal leaves a device is what it is ready with. -/
theorem ready_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(ready m c ∗ emp) := by
  rw [Pipeline.unscopedRestP_none, unscopedRest0_eq]
  iintro ⟨⟨H0, H1, H2, H3, H4, H5, H6, HY⟩, Hlev, Hcr, -, HG⟩
  ihave Hc := (creds (F := F) c) $$ Hcr
  imodintro
  unfold ready Args
  isplitl
  · isplitl [HG]; · iexact HG
    isplitl [Hc]; · iexact Hc
    isplitl [Hlev]; · iexact Hlev
    isplitr [HY]
    · isplitl [H0]; · iexact H0
      isplitl [H1]; · iexact H1
      isplitl [H2]; · iexact H2
      isplitl [H3]; · iexact H3
      isplitl [H4]; · iexact H4
      isplitl [H5]; · iexact H5
      iexact H6
    iexact HY
  · iempintro

/-! ## The run -/

/-- What a device's memory holds at the end. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6))
  ∧ s.mem ((c : Thread nD τ).loc main_v1) = outV m c

/-- A buffer held in full is what the memory holds. -/
theorem read_whole {ℓ : Loc nD τ sig} {f : Buf (Elt F) ℓ} (s' : Phys nD τ sig (Elt F)) : iprop(SI s' ∗ (ℓ ↦{fullShare} f)) ⊢ (⌜s'.mem.mem ℓ = f⌝ : sProp 𝕄) :=
  SI_pointsTo_agree.trans (BI.pure_mono fun h => funext fun i => h i (Finset.mem_univ i))

/-- What a device ends with, read off the memory. -/
theorem done_read (c : Dev nD) (s' : Phys nD τ sig (Elt F)) : iprop(done m c ∗ emp ∗ SI s')
    ⊢ |={Set.univ}=> iprop(⌜Ends m c s'.mem ∧ ∀ sm : SemLoc sig, sm.isScoped .tc = false → s'.mem.sem ((c.tc : Thread nD τ), sm) = 0⌝ ∗ SI s') := by
  unfold done Args
  iintro ⟨⟨Hu, ⟨H0, H1, H2, H3, H4, H5, H6⟩, HY⟩, -, HSI⟩
  ihave %h0 := (read_whole s') $$ [HSI H0]; · isplitl [HSI] <;> iassumption
  ihave %h1 := (read_whole s') $$ [HSI H1]; · isplitl [HSI] <;> iassumption
  ihave %h2 := (read_whole s') $$ [HSI H2]; · isplitl [HSI] <;> iassumption
  ihave %h3 := (read_whole s') $$ [HSI H3]; · isplitl [HSI] <;> iassumption
  ihave %h4 := (read_whole s') $$ [HSI H4]; · isplitl [HSI] <;> iassumption
  ihave %h5 := (read_whole s') $$ [HSI H5]; · isplitl [HSI] <;> iassumption
  ihave %h6 := (read_whole s') $$ [HSI H6]; · isplitl [HSI] <;> iassumption
  ihave %hY := (read_whole s') $$ [HSI HY]; · isplitl [HSI] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨⟨⟨h0, h1, h2, h3, h4, h5, h6⟩, hY⟩, hs⟩
  iexact HSI

set_option maxRecDepth 100000 in
/-- At the mesh of four devices, for any float values, from any memory with zero counters: every fair run of the program
    ends, each device's arguments are unchanged and its result is `outV`, and every counter is zero. -/
theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := ready m) (Y := done m) (Z := fun _ => iprop(emp))
    (hX := ready_intro m ρ)
    (hin := fun c => by
      show iprop(ready m c ∗ _ ∗ ownBufs c) ⊢ iprop(ready m c ∗ ownBufs c)
      iintro ⟨HR, -, HB⟩
      isplitl [HR] <;> iassumption)
    (hout := fun c => Entails.refl _)
    (QY := fun c s => Ends m c s ∧ ∀ sm : SemLoc sig, sm.isScoped .tc = false → s.sem ((c.tc : Thread nD τ), sm) = 0)
    (hY := done_read m)
    (hQ := fun _ h hs => ⟨fun c => (h c).2.2.1, sem_eq_zero hs fun c => (h c).2.2.2⟩)

end Cert.Exchange

end
-- ==== Proof.Layers.lean ====
/-
The mathematics: over the ideal values the four devices' parts of a layer sum to the layer over the whole matrices, so
what the kernel leaves on a device is that device's rows of the three layers.
-/
module

public import proofs.«01_k».proof.Proof.Common
public import proofs.«01_k».proof.Proof.Gen.ReferenceIdeal.Run
public import Idealize.ShloMosaic.Lib.StackMember
public import Idealize.ShloMosaic.Lib.KernelVsHost
public import Idealize.ShloMosaic.Lib.Pipeline.Value
public import Idealize.ShloMosaic.Lib.Layout
public import Idealize.ShloMosaic.Lib.Pointwise.Sums

@[expose] public section

noncomputable section

namespace Cert.Exchange

open Cert.KernelIdeal Cert.KernelIdeal.Gen

open Idealize.ShloMosaic hiding ix2 eq_ix2
open Idealize.ShloMosaic.TcCoe
open Idealize.ShloMosaic.ValueIdx
open scoped BigOperators

/-! ## One layer -/

/-- The layer `max(x·wi, 0)·wo` of `M` rows and `H` hidden columns. -/
def mlp (M H : ℕ) (x : FVec Ideal ⟨2, ![M, 512]⟩ .f32) (wi : FVec Ideal ⟨2, ![512, H]⟩ .f32) (wo : FVec Ideal ⟨2, ![H, 512]⟩ .f32) :
    FVec Ideal ⟨2, ![M, 512]⟩ .f32 :=
  Host.dotGeneral (DotDims.plain M H 512) none
    (maximumf (Host.dotGeneral (DotDims.plain M 512 H) none x wi) (broadcast _ (Scalar.ofBits .f32 0x00000000#32))) wo

/-- A hidden entry of a layer: row `r`, column `k`. -/
def hid {M H : ℕ} (x : FVec Ideal ⟨2, ![M, 512]⟩ .f32) (wi : FVec Ideal ⟨2, ![512, H]⟩ .f32) (r : Fin M) (k : Fin H) : Ideal .f32 :=
  FloatOps.maximumf (∑ j : Fin 512, x (ix2 r j) * wi (ix2 j k) : EReal) (Scalar.ofBits .f32 0x00000000#32)

/-- An entry of a layer: the sum over the hidden columns. -/
theorem mlp_apply {M H : ℕ} (x : FVec Ideal ⟨2, ![M, 512]⟩ .f32) (wi : FVec Ideal ⟨2, ![512, H]⟩ .f32) (wo : FVec Ideal ⟨2, ![H, 512]⟩ .f32)
    (r : Fin M) (q : Fin 512) : mlp M H x wi wo (ix2 r q) = (∑ k : Fin H, hid x wi r k * wo (ix2 k q) : EReal) := by
  unfold mlp
  rw [StackMember.dotGeneral_plain_apply]
  refine Finset.sum_congr rfl fun k _ => congrArg (· * wo (ix2 k q)) ?_
  show FloatOps.maximumf (Host.dotGeneral (DotDims.plain M 512 H) none x wi (ix2 r k)) _ = _
  rw [StackMember.dotGeneral_plain_apply]
  rfl

/-- A device's product is the layer over the part of the matrices it holds. -/
theorem pay1_eq (x : FVec Ideal S16x512 .f32) (wi : FVec Ideal S512x1024 .f32) (wo : FVec Ideal S1024x512 .f32) :
    k0_pay1 x wi wo = mlp 16 1024 x wi wo := by
  unfold k0_pay1 mlp
  dsimp only
  rw [matmul_zero_eq_dotGeneral, matmul_zero_eq_dotGeneral]
  rfl

/-! ## The cut along the hidden columns -/

/-- The hidden column `k` of device `d`'s part, of all of them. -/
def hcol (d : Fin 4) (k : Fin 1024) : Fin 4096 := ⟨d.val * 1024 + k.val, by omega⟩

/-- A sum over all hidden columns is the sum over the devices of the sums over their parts. -/
theorem sum_hidden (f : Fin 4096 → EReal) : ∑ k, f k = ∑ d : Fin 4, ∑ k : Fin 1024, f (hcol d k) :=
  Fin.sum_univ_tiles 4 1024 (by decide) f

/-- Device `d`'s part of a layer's first matrix. -/
abbrev cutIn (w : FVec Ideal ⟨2, ![512, 4096]⟩ .f32) (d : Fin 4) : FVec Ideal ⟨2, ![512, 1024]⟩ .f32 :=
  Layout.block ⟨2, ![512, 1024]⟩ ⟨2, ![512, 4096]⟩ 1 4 d w
/-- Device `d`'s part of a layer's second matrix. -/
abbrev cutOut (w : FVec Ideal ⟨2, ![4096, 512]⟩ .f32) (d : Fin 4) : FVec Ideal ⟨2, ![1024, 512]⟩ .f32 :=
  Layout.block ⟨2, ![1024, 512]⟩ ⟨2, ![4096, 512]⟩ 0 4 d w

/-- An entry of a part of the first matrix. -/
theorem cutIn_apply (w : FVec Ideal ⟨2, ![512, 4096]⟩ .f32) (d : Fin 4) (j : Fin 512) (k : Fin 1024) :
    cutIn w d (ix2 j k) = w (ix2 j (hcol d k)) :=
  congrArg w (funext fun a => Fin.ext (by fin_cases a <;> rfl))
/-- An entry of a part of the second matrix. -/
theorem cutOut_apply (w : FVec Ideal ⟨2, ![4096, 512]⟩ .f32) (d : Fin 4) (k : Fin 1024) (q : Fin 512) :
    cutOut w d (ix2 k q) = w (ix2 (hcol d k) q) :=
  congrArg w (funext fun a => Fin.ext (by fin_cases a <;> rfl))

/-- The devices' layers over their parts of the matrices sum to the layer over the whole, at a row they all hold. -/
theorem sum_parts (X : FVec Ideal ⟨2, ![64, 512]⟩ .f32) (Wi : FVec Ideal ⟨2, ![512, 4096]⟩ .f32) (Wo : FVec Ideal ⟨2, ![4096, 512]⟩ .f32)
    (R : Fin 64) (r : Fin 16) (x : Fin 4 → FVec Ideal ⟨2, ![16, 512]⟩ .f32) (hx : ∀ d j, x d (ix2 r j) = X (ix2 R j)) (q : Fin 512) :
    (∑ d : Fin 4, mlp 16 1024 (x d) (cutIn Wi d) (cutOut Wo d) (ix2 r q) : EReal) = mlp 64 4096 X Wi Wo (ix2 R q) := by
  rw [mlp_apply, sum_hidden]
  refine Finset.sum_congr rfl fun d _ => ?_
  rw [mlp_apply]
  refine Finset.sum_congr rfl fun k _ => ?_
  rw [cutOut_apply]
  refine congrArg (· * Wo (ix2 (hcol d k) q)) ?_
  unfold hid
  refine congrArg (fun z : EReal => (FloatOps.maximumf z (Scalar.ofBits .f32 0x00000000#32) : Ideal .f32)) ?_
  refine Finset.sum_congr rfl fun j _ => ?_
  rw [hx, cutIn_apply]

/-! ## What a device adds -/

/-- A device and its three peers are all the devices. -/
theorem sum_peers (c : Dev nD) (f : Dev nD → EReal) : f c + (f (peer 0 c) + f (peer 1 c) + f (peer 2 c)) = ∑ d : Dev nD, f d := by
  have h : (Finset.univ : Finset (Dev nD)) = {c, peer 0 c, peer 1 c, peer 2 c} := by revert c; decide
  have h3 : c ∉ ({peer 0 c, peer 1 c, peer 2 c} : Finset (Dev nD)) ∧ peer 0 c ∉ ({peer 1 c, peer 2 c} : Finset (Dev nD))
      ∧ peer 1 c ∉ ({peer 2 c} : Finset (Dev nD)) := by revert c; decide
  rw [h, Finset.sum_insert h3.1, Finset.sum_insert h3.2.1, Finset.sum_insert h3.2.2, Finset.sum_singleton, add_assoc (f (peer 0 c))]

/-- Sent and opened again, a part is itself. -/
theorem open_wire (p : FVec Ideal S16x512 .f32) : shapeCast S16x512 (wire p) shapeCasts_S1x16x512_S16x512 = p := by
  unfold wire
  rw [shapeCast_shapeCast]
  rfl

/-- A device's own part and the three received are the sum of all four. -/
theorem pay12_apply (p : Dev nD → FVec Ideal S16x512 .f32) (c : Dev nD) (i : S16x512.Idx) :
    k0_pay12 (p c) (wire (p (peer 0 c))) (wire (p (peer 1 c))) (wire (p (peer 2 c))) i = (∑ d : Dev nD, p d i : EReal) := by
  unfold k0_pay12
  rw [open_wire, open_wire, open_wire]
  exact sum_peers c fun d => p d i

/-- The same of the last layer's sum, the one written to the result. -/
theorem pay35_apply (p : Dev nD → FVec Ideal S16x512 .f32) (c : Dev nD) (i : S16x512.Idx) :
    k0_pay35 (k0_pay33 (wire (p (peer 0 c))) (wire (p (peer 1 c)))) (k0_pay34 (wire (p (peer 2 c))))
      (shapeCast S16x512 (p c) shapeCasts_S16x512_S16x512) i = (∑ d : Dev nD, p d i : EReal) := by
  unfold k0_pay35 k0_pay33 k0_pay34
  dsimp only
  rw [open_wire, open_wire, open_wire, shapeCast_self, shapeCast_self]
  exact sum_peers c fun d => p d i

/-! ## The three layers -/

section Net

variable (m : (ℓ : Loc nD τ sig) → Buf (Elt Ideal) ℓ)
variable (X : FVec Ideal ⟨2, ![64, 512]⟩ .f32) (Wi : ℕ → FVec Ideal ⟨2, ![512, 4096]⟩ .f32) (Wo : ℕ → FVec Ideal ⟨2, ![4096, 512]⟩ .f32)

/-- What goes into layer `l` of the whole computation. -/
def net : ℕ → FVec Ideal ⟨2, ![64, 512]⟩ .f32
  | 0 => X
  | l + 1 => mlp 64 4096 (net l) (Wi l) (Wo l)

/-- Row `r` of chunk `ch`, of all the rows. -/
def chunkRow (ch : ℕ) (r : Fin 16) : Fin 64 := ⟨16 * (ch % 4) + r.val, by have := Nat.mod_lt ch (show 0 < 4 by decide); omega⟩

/-- A chunk's row of the input, read on any device that holds the whole of it. -/
theorem xrow_apply (ch : ℕ) (c : Dev nD) (h : m ((c : Thread nD τ).loc main_arg0) = X) (r : Fin 16) (j : Fin 512) :
    xrow m ch c (ix2 r j) = X (ix2 (chunkRow ch r) j) := by
  subst h
  unfold xrow
  refine congrArg (m ((c : Thread nD τ).loc main_arg0)) (funext fun a => Fin.ext ?_)
  match a with
  | ⟨0, _⟩ =>
    show 16 * (ch % 4) + 1 * r.val = 16 * (ch % 4) + r.val
    rw [Nat.one_mul]
  | ⟨1, _⟩ =>
    show 0 + 1 * j.val = j.val
    rw [Nat.one_mul, Nat.zero_add]

/-- After each layer the four devices' parts of a chunk sum to the chunk's rows of the whole layer. -/
theorem sum_part (hX : ∀ c : Dev nD, m ((c : Thread nD τ).loc main_arg0) = X)
    (hWi : ∀ l, l < 3 → ∀ c : Dev nD, wIn m l c = cutIn (Wi l) c) (hWo : ∀ l, l < 3 → ∀ c : Dev nD, wOut m l c = cutOut (Wo l) c)
    (ch : ℕ) (r : Fin 16) (l : ℕ) (hl : l < 3) (q : Fin 512) :
    (∑ d : Dev nD, part m l ch d (ix2 r q) : EReal) = net X Wi Wo (l + 1) (ix2 (chunkRow ch r) q) := by
  induction l generalizing q with
  | zero =>
    refine Eq.trans (Finset.sum_congr rfl fun d _ => ?_)
      (sum_parts X (Wi 0) (Wo 0) (chunkRow ch r) r (fun d => xrow m ch d) (fun d j => xrow_apply m X ch d (hX d) r j) q)
    rw [part, pay1_eq, hWi 0 hl, hWo 0 hl]
  | succ l ih =>
    refine Eq.trans (Finset.sum_congr rfl fun d _ => ?_)
      (sum_parts (net X Wi Wo (l + 1)) (Wi (l + 1)) (Wo (l + 1)) (chunkRow ch r) r
        (fun d => k0_pay12 (part m l ch d) (wire (part m l ch (peer 0 d))) (wire (part m l ch (peer 1 d))) (wire (part m l ch (peer 2 d))))
        (fun d j => (pay12_apply (part m l ch) d (ix2 r j)).trans (ih (Nat.lt_of_succ_lt hl) j)) q)
    rw [part, pay1_eq, hWi (l + 1) hl, hWo (l + 1) hl]

/-- The result on device `c` is its sixteen rows of the three layers. -/
theorem outV_eq (hX : ∀ c : Dev nD, m ((c : Thread nD τ).loc main_arg0) = X)
    (hWi : ∀ l, l < 3 → ∀ c : Dev nD, wIn m l c = cutIn (Wi l) c) (hWo : ∀ l, l < 3 → ∀ c : Dev nD, wOut m l c = cutOut (Wo l) c)
    (c : Dev nD) : outV m c = Layout.block ⟨2, ![16, 512]⟩ ⟨2, ![64, 512]⟩ 0 4 c (net X Wi Wo 3) := by
  funext i
  rw [eq_ix2 i]
  unfold outV
  refine (pay35_apply (part m 2 c.val) c _).trans ((sum_part m X Wi Wo hX hWi hWo c.val (i 0) 2 (by decide) (i 1)).trans ?_)
  refine congrArg (net X Wi Wo 3) (funext fun a => Fin.ext ?_)
  have hc : c.val % 4 = c.val := Nat.mod_eq_of_lt c.isLt
  fin_cases a
  · show 16 * (c.val % 4) + (i 0).val = c.val * 16 + (i 0).val
    rw [hc]
    omega
  · rfl

end Net

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Layers
public import Idealize.ShloMosaic.Adequacy
public import Idealize.ShloMosaic.Init

@[expose] public section

noncomputable section

namespace Cert.Proof

open Idealize.ShloMosaic Idealize.SL.Sem Cert.Kernel

open Idealize.ShloMosaic.TcCoe

/-- The kernel's frame, at the machine's own floats: the run with the result dropped. -/
theorem frame_kernel : Cert.quiescent_Kernel := fun m ρ _ =>
  (θ_run Cert.KernelIdeal.defs _ _).mono (fun _ h => ⟨fun c => (h.1 c).1, h.2⟩) (Cert.Exchange.run_main (F := Bits) m ρ)

/-- The kernel's frame at the ideal values: the same run. -/
theorem frame_kernelIdeal : Cert.quiescent_KernelIdeal := fun m ρ _ =>
  (θ_run Cert.KernelIdeal.defs _ _).mono (fun _ h => ⟨fun c => (h.1 c).1, h.2⟩) (Cert.Exchange.run_main (F := Ideal) m ρ)

/-- The reference's frame: its run, with no semaphore to count. -/
theorem frame_referenceIdeal : Cert.quiescent_ReferenceIdeal := fun m ρ _ =>
  (θ_run Cert.ReferenceIdeal.defs _ _).mono
    (fun _ h => ⟨fun c => (h c).2, sem_eq_zero_of_no_sems (by decide) _⟩) (Cert.ReferenceIdeal.Value.run (F := Ideal) m ρ)

/-- The first matrices of the reference's three layers. -/
def refIn (m' : (ℓ : Loc Cert.ReferenceIdeal.nD Cert.ReferenceIdeal.τ Cert.ReferenceIdeal.sig) → Buf (Elt Ideal) ℓ) :
    ℕ → FVec Ideal ⟨2, ![512, 4096]⟩ .f32
  | 0 => m' (((0 : Dev Cert.ReferenceIdeal.nD).tc : Thread Cert.ReferenceIdeal.nD Cert.ReferenceIdeal.τ).loc Cert.ReferenceIdeal.main_arg1)
  | 1 => m' (((0 : Dev Cert.ReferenceIdeal.nD).tc : Thread Cert.ReferenceIdeal.nD Cert.ReferenceIdeal.τ).loc Cert.ReferenceIdeal.main_arg2)
  | _ => m' (((0 : Dev Cert.ReferenceIdeal.nD).tc : Thread Cert.ReferenceIdeal.nD Cert.ReferenceIdeal.τ).loc Cert.ReferenceIdeal.main_arg3)

/-- The second matrices of the reference's three layers. -/
def refOut (m' : (ℓ : Loc Cert.ReferenceIdeal.nD Cert.ReferenceIdeal.τ Cert.ReferenceIdeal.sig) → Buf (Elt Ideal) ℓ) :
    ℕ → FVec Ideal ⟨2, ![4096, 512]⟩ .f32
  | 0 => m' (((0 : Dev Cert.ReferenceIdeal.nD).tc : Thread Cert.ReferenceIdeal.nD Cert.ReferenceIdeal.τ).loc Cert.ReferenceIdeal.main_arg4)
  | 1 => m' (((0 : Dev Cert.ReferenceIdeal.nD).tc : Thread Cert.ReferenceIdeal.nD Cert.ReferenceIdeal.τ).loc Cert.ReferenceIdeal.main_arg5)
  | _ => m' (((0 : Dev Cert.ReferenceIdeal.nD).tc : Thread Cert.ReferenceIdeal.nD Cert.ReferenceIdeal.τ).loc Cert.ReferenceIdeal.main_arg6)

/-- The value claim: the kernel's result on each device is its rows of the reference's three layers. -/
theorem value : Cert.algebraic_KernelIdeal_ReferenceIdeal := by
  intro m g m' g' _ hagree
  refine ⟨Cert.Exchange.net
      (m' (((0 : Dev Cert.ReferenceIdeal.nD).tc : Thread Cert.ReferenceIdeal.nD Cert.ReferenceIdeal.τ).loc Cert.ReferenceIdeal.main_arg0))
      (refIn m') (refOut m') 3, ?_, ?_⟩
  · refine (θ_run Cert.KernelIdeal.defs _ _).mono (fun r h c => ⟨(h.1 c).2.trans ?_, (h.1 c).1⟩) (Cert.Exchange.run_main (F := Ideal) m g)
    refine Cert.Exchange.outV_eq m _ _ _ (fun c => (hagree c).1) (fun l hl c => ?_) (fun l hl c => ?_) c
    · interval_cases l
      · exact (hagree c).2.1
      · exact (hagree c).2.2.1
      · exact (hagree c).2.2.2.1
    · interval_cases l
      · exact (hagree c).2.2.2.2.1
      · exact (hagree c).2.2.2.2.2.1
      · exact (hagree c).2.2.2.2.2.2
  · exact (θ_run Cert.ReferenceIdeal.defs _ _).mono (fun r h => ⟨(h 0).1.trans rfl, (h 0).2⟩) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
